-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 8192, 2048]⟩ ⟨3, ![2, 8192, 2048]⟩ (Layout.meshBlock [2, 2] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x8192x2048 : Shape := ⟨3, ![1, 8192, 2048]⟩
abbrev S8192x2048 : Shape := ⟨2, ![8192, 2048]⟩
abbrev S2048 : Shape := ⟨1, ![2048]⟩
abbrev S1x2048 : Shape := ⟨2, ![1, 2048]⟩
abbrev S_ : Shape := ⟨0, ![]⟩
abbrev S1 : Shape := ⟨1, ![1]⟩
abbrev S1x64x2048 : Shape := ⟨3, ![1, 64, 2048]⟩
abbrev S64x2048 : Shape := ⟨2, ![64, 2048]⟩
abbrev S64x64x2048 : Shape := ⟨3, ![64, 64, 2048]⟩
abbrev S2x64x2048 : Shape := ⟨3, ![2, 64, 2048]⟩
abbrev S64 : Shape := ⟨1, ![64]⟩
abbrev S2 : Shape := ⟨1, ![2]⟩
abbrev S64x1 : Shape := ⟨2, ![64, 1]⟩

abbrev nBuf : Space → Nat
  | .hbm => 11
  | .vmem => 7
  | .smem => 1
  | _ => 0

abbrev bufTy : (tb : Table) → Fin (tcTables nBuf tb) → BufTy
  | .hbm, ⟨0, _⟩ => ⟨S1x8192x2048, .f32⟩
  | .hbm, ⟨1, _⟩ => ⟨S8192x2048, .f32⟩
  | .hbm, ⟨2, _⟩ => ⟨S2048, .f32⟩
  | .hbm, ⟨3, _⟩ => ⟨S1x2048, .f32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S8192x2048, .f32⟩
  | .local _ .vmem, ⟨0, _⟩ => ⟨S1x64x2048, .f32⟩
  | .local _ .vmem, ⟨1, _⟩ => ⟨S1x64x2048, .f32⟩
  | .local _ .vmem, ⟨2, _⟩ => ⟨S64x2048, .f32⟩
  | .local _ .vmem, ⟨3, _⟩ => ⟨S64x2048, .f32⟩
  | .local _ .vmem, ⟨4, _⟩ => ⟨S1x2048, .f32⟩
  | .local _ .vmem, ⟨5, _⟩ => ⟨S64x64x2048, .f32⟩
  | .local _ .vmem, ⟨6, _⟩ => ⟨S2x64x2048, .f32⟩
  | .local _ .smem, ⟨0, _⟩ => ⟨S1, .i32⟩
  | _, _ => ⟨S1x8192x2048, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_2 (i : Nat) : Bool := match i % 128 with
  | 0 => true
  | 1 => true
  | 2 => true
  | 3 => true
  | 4 => true
  | 5 => true
  | 6 => true
  | _ => false

abbrev dmaSemScopedAt (i : Nat) : Bool := match i / 128 with
  | 0 => dmaSemScopedAt0_0 i
  | 1 => dmaSemScopedAt0_1 i
  | 2 => dmaSemScopedAt0_2 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 263 → Bool
  | ⟨i, _⟩ => dmaSemScopedAt i

abbrev sig : RefSig :=
  (ofTc nBuf bufTy 1 263 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_c : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v7 : Ref sig .tc := ⟨.hbm, 10, rfl⟩
abbrev main_v6 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev barrier0 : Sem sig := 0

abbrev nD : Nat := 4
abbrev τ : Topo := Topo.v7x

variable {F : FTy → Type} [FloatOps F]

abbrev grid0 : Pipeline.Grid := ⟨1, ![64], ![false]⟩

abbrev pre0 : Pipeline.Prefetch sig := ⟨1, ![main_v6.idx], fun | 0 => main_v6.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v7 : BitVec 1 := Scalar.cmpi .eq arg0 c0_i32
  let v8 : BitVec 32 := Scalar.extui v7
  let c0_i32_3 : BitVec 32 := 0#32
  let v9 : BitVec 1 := Scalar.cmpi .ne v8 c0_i32_3
  v9

def k0_dev1 (d0 : Dev nD) : Nat :=
  let c0_i32_42 : BitVec 32 := 0#32
  let c1_i32_39 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v78 : BitVec 32 := Scalar.subi c1_i32_39 v2
  let c2_i32_41 : BitVec 32 := 2#32
  let v79 : BitVec 32 := Scalar.muli v78 c2_i32_41
  let v80 : BitVec 32 := Scalar.addi c0_i32_42 v79
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_43 : BitVec 32 := 1#32
  let v81 : BitVec 32 := Scalar.muli v5 c1_i32_43
  let v82 : BitVec 32 := Scalar.addi v80 v81
  v82.toNat
def k0_dev2 (d0 : Dev nD) : Nat :=
  let c0_i32_47 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_46 : BitVec 32 := 2#32
  let v84 : BitVec 32 := Scalar.muli v2 c2_i32_46
  let v85 : BitVec 32 := Scalar.addi c0_i32_47 v84
  let c1_i32_44 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v83 : BitVec 32 := Scalar.subi c1_i32_44 v5
  let c1_i32_48 : BitVec 32 := 1#32
  let v86 : BitVec 32 := Scalar.muli v83 c1_i32_48
  let v87 : BitVec 32 := Scalar.addi v85 v86
  v87.toNat
def k0_off1 (d0 : Dev nD) (c0_i32_51 : BitVec 32) : Fin 3 → Nat :=
  let c0_i32_53 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32_50 : BitVec 32 := 4096#32
  let v88 : BitVec 32 := Scalar.muli v5 c4096_i32_50
  let v89 : BitVec 32 := Scalar.addi v88 c0_i32_51
  let c0_i32_62 : BitVec 32 := 0#32
  ![0, v89.toNat, 0]
def k0_dev3 (d0 : Dev nD) : Nat :=
  let c0_i32_58 : BitVec 32 := 0#32
  let c1_i32_52 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v90 : BitVec 32 := Scalar.subi c1_i32_52 v2
  let c2_i32_57 : BitVec 32 := 2#32
  let v91 : BitVec 32 := Scalar.muli v90 c2_i32_57
  let v92 : BitVec 32 := Scalar.addi c0_i32_58 v91
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_59 : BitVec 32 := 1#32
  let v93 : BitVec 32 := Scalar.muli v5 c1_i32_59
  let v94 : BitVec 32 := Scalar.addi v92 v93
  v94.toNat
def k0_dev4 (d0 : Dev nD) : Nat :=
  let c0_i32_71 : BitVec 32 := 0#32
  let c1_i32_65 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v105 : BitVec 32 := Scalar.subi c1_i32_65 v2
  let c2_i32_70 : BitVec 32 := 2#32
  let v106 : BitVec 32 := Scalar.muli v105 c2_i32_70
  let v107 : BitVec 32 := Scalar.addi c0_i32_71 v106
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_72 : BitVec 32 := 1#32
  let v108 : BitVec 32 := Scalar.muli v5 c1_i32_72
  let v109 : BitVec 32 := Scalar.addi v107 v108
  v109.toNat
def k0_dev5 (d0 : Dev nD) : Nat :=
  let c0_i32_83 : BitVec 32 := 0#32
  let c1_i32_77 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v120 : BitVec 32 := Scalar.subi c1_i32_77 v2
  let c2_i32_82 : BitVec 32 := 2#32
  let v121 : BitVec 32 := Scalar.muli v120 c2_i32_82
  let v122 : BitVec 32 := Scalar.addi c0_i32_83 v121
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_84 : BitVec 32 := 1#32
  let v123 : BitVec 32 := Scalar.muli v5 c1_i32_84
  let v124 : BitVec 32 := Scalar.addi v122 v123
  v124.toNat
def k0_dev6 (d0 : Dev nD) : Nat :=
  let c0_i32_94 : BitVec 32 := 0#32
  let c1_i32_89 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v135 : BitVec 32 := Scalar.subi c1_i32_89 v2
  let c2_i32_93 : BitVec 32 := 2#32
  let v136 : BitVec 32 := Scalar.muli v135 c2_i32_93
  let v137 : BitVec 32 := Scalar.addi c0_i32_94 v136
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_95 : BitVec 32 := 1#32
  let v138 : BitVec 32 := Scalar.muli v5 c1_i32_95
  let v139 : BitVec 32 := Scalar.addi v137 v138
  v139.toNat
def k0_dev7 (d0 : Dev nD) : Nat :=
  let c0_i32_105 : BitVec 32 := 0#32
  let c1_i32_100 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v150 : BitVec 32 := Scalar.subi c1_i32_100 v2
  let c2_i32_104 : BitVec 32 := 2#32
  let v151 : BitVec 32 := Scalar.muli v150 c2_i32_104
  let v152 : BitVec 32 := Scalar.addi c0_i32_105 v151
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_106 : BitVec 32 := 1#32
  let v153 : BitVec 32 := Scalar.muli v5 c1_i32_106
  let v154 : BitVec 32 := Scalar.addi v152 v153
  v154.toNat
def k0_dev8 (d0 : Dev nD) : Nat :=
  let c0_i32_116 : BitVec 32 := 0#32
  let c1_i32_111 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v165 : BitVec 32 := Scalar.subi c1_i32_111 v2
  let c2_i32_115 : BitVec 32 := 2#32
  let v166 : BitVec 32 := Scalar.muli v165 c2_i32_115
  let v167 : BitVec 32 := Scalar.addi c0_i32_116 v166
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_117 : BitVec 32 := 1#32
  let v168 : BitVec 32 := Scalar.muli v5 c1_i32_117
  let v169 : BitVec 32 := Scalar.addi v167 v168
  v169.toNat
def k0_dev9 (d0 : Dev nD) : Nat :=
  let c0_i32_127 : BitVec 32 := 0#32
  let c1_i32_122 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v180 : BitVec 32 := Scalar.subi c1_i32_122 v2
  let c2_i32_126 : BitVec 32 := 2#32
  let v181 : BitVec 32 := Scalar.muli v180 c2_i32_126
  let v182 : BitVec 32 := Scalar.addi c0_i32_127 v181
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_128 : BitVec 32 := 1#32
  let v183 : BitVec 32 := Scalar.muli v5 c1_i32_128
  let v184 : BitVec 32 := Scalar.addi v182 v183
  v184.toNat
def k0_dev10 (d0 : Dev nD) : Nat :=
  let c0_i32_138 : BitVec 32 := 0#32
  let c1_i32_133 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v195 : BitVec 32 := Scalar.subi c1_i32_133 v2
  let c2_i32_137 : BitVec 32 := 2#32
  let v196 : BitVec 32 := Scalar.muli v195 c2_i32_137
  let v197 : BitVec 32 := Scalar.addi c0_i32_138 v196
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_139 : BitVec 32 := 1#32
  let v198 : BitVec 32 := Scalar.muli v5 c1_i32_139
  let v199 : BitVec 32 := Scalar.addi v197 v198
  v199.toNat
def k0_dev11 (d0 : Dev nD) : Nat :=
  let c0_i32_149 : BitVec 32 := 0#32
  let c1_i32_144 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v210 : BitVec 32 := Scalar.subi c1_i32_144 v2
  let c2_i32_148 : BitVec 32 := 2#32
  let v211 : BitVec 32 := Scalar.muli v210 c2_i32_148
  let v212 : BitVec 32 := Scalar.addi c0_i32_149 v211
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_150 : BitVec 32 := 1#32
  let v213 : BitVec 32 := Scalar.muli v5 c1_i32_150
  let v214 : BitVec 32 := Scalar.addi v212 v213
  v214.toNat
def k0_dev12 (d0 : Dev nD) : Nat :=
  let c0_i32_160 : BitVec 32 := 0#32
  let c1_i32_155 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v225 : BitVec 32 := Scalar.subi c1_i32_155 v2
  let c2_i32_159 : BitVec 32 := 2#32
  let v226 : BitVec 32 := Scalar.muli v225 c2_i32_159
  let v227 : BitVec 32 := Scalar.addi c0_i32_160 v226
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_161 : BitVec 32 := 1#32
  let v228 : BitVec 32 := Scalar.muli v5 c1_i32_161
  let v229 : BitVec 32 := Scalar.addi v227 v228
  v229.toNat
def k0_dev13 (d0 : Dev nD) : Nat :=
  let c0_i32_171 : BitVec 32 := 0#32
  let c1_i32_166 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v240 : BitVec 32 := Scalar.subi c1_i32_166 v2
  let c2_i32_170 : BitVec 32 := 2#32
  let v241 : BitVec 32 := Scalar.muli v240 c2_i32_170
  let v242 : BitVec 32 := Scalar.addi c0_i32_171 v241
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_172 : BitVec 32 := 1#32
  let v243 : BitVec 32 := Scalar.muli v5 c1_i32_172
  let v244 : BitVec 32 := Scalar.addi v242 v243
  v244.toNat
def k0_dev14 (d0 : Dev nD) : Nat :=
  let c0_i32_182 : BitVec 32 := 0#32
  let c1_i32_177 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v255 : BitVec 32 := Scalar.subi c1_i32_177 v2
  let c2_i32_181 : BitVec 32 := 2#32
  let v256 : BitVec 32 := Scalar.muli v255 c2_i32_181
  let v257 : BitVec 32 := Scalar.addi c0_i32_182 v256
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_183 : BitVec 32 := 1#32
  let v258 : BitVec 32 := Scalar.muli v5 c1_i32_183
  let v259 : BitVec 32 := Scalar.addi v257 v258
  v259.toNat
def k0_dev15 (d0 : Dev nD) : Nat :=
  let c0_i32_193 : BitVec 32 := 0#32
  let c1_i32_188 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v270 : BitVec 32 := Scalar.subi c1_i32_188 v2
  let c2_i32_192 : BitVec 32 := 2#32
  let v271 : BitVec 32 := Scalar.muli v270 c2_i32_192
  let v272 : BitVec 32 := Scalar.addi c0_i32_193 v271
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_194 : BitVec 32 := 1#32
  let v273 : BitVec 32 := Scalar.muli v5 c1_i32_194
  let v274 : BitVec 32 := Scalar.addi v272 v273
  v274.toNat
def k0_dev16 (d0 : Dev nD) : Nat :=
  let c0_i32_204 : BitVec 32 := 0#32
  let c1_i32_199 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v285 : BitVec 32 := Scalar.subi c1_i32_199 v2
  let c2_i32_203 : BitVec 32 := 2#32
  let v286 : BitVec 32 := Scalar.muli v285 c2_i32_203
  let v287 : BitVec 32 := Scalar.addi c0_i32_204 v286
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_205 : BitVec 32 := 1#32
  let v288 : BitVec 32 := Scalar.muli v5 c1_i32_205
  let v289 : BitVec 32 := Scalar.addi v287 v288
  v289.toNat
def k0_dev17 (d0 : Dev nD) : Nat :=
  let c0_i32_215 : BitVec 32 := 0#32
  let c1_i32_210 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v300 : BitVec 32 := Scalar.subi c1_i32_210 v2
  let c2_i32_214 : BitVec 32 := 2#32
  let v301 : BitVec 32 := Scalar.muli v300 c2_i32_214
  let v302 : BitVec 32 := Scalar.addi c0_i32_215 v301
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_216 : BitVec 32 := 1#32
  let v303 : BitVec 32 := Scalar.muli v5 c1_i32_216
  let v304 : BitVec 32 := Scalar.addi v302 v303
  v304.toNat
def k0_dev18 (d0 : Dev nD) : Nat :=
  let c0_i32_226 : BitVec 32 := 0#32
  let c1_i32_221 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v315 : BitVec 32 := Scalar.subi c1_i32_221 v2
  let c2_i32_225 : BitVec 32 := 2#32
  let v316 : BitVec 32 := Scalar.muli v315 c2_i32_225
  let v317 : BitVec 32 := Scalar.addi c0_i32_226 v316
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_227 : BitVec 32 := 1#32
  let v318 : BitVec 32 := Scalar.muli v5 c1_i32_227
  let v319 : BitVec 32 := Scalar.addi v317 v318
  v319.toNat
def k0_dev19 (d0 : Dev nD) : Nat :=
  let c0_i32_237 : BitVec 32 := 0#32
  let c1_i32_232 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v330 : BitVec 32 := Scalar.subi c1_i32_232 v2
  let c2_i32_236 : BitVec 32 := 2#32
  let v331 : BitVec 32 := Scalar.muli v330 c2_i32_236
  let v332 : BitVec 32 := Scalar.addi c0_i32_237 v331
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_238 : BitVec 32 := 1#32
  let v333 : BitVec 32 := Scalar.muli v5 c1_i32_238
  let v334 : BitVec 32 := Scalar.addi v332 v333
  v334.toNat
def k0_dev20 (d0 : Dev nD) : Nat :=
  let c0_i32_248 : BitVec 32 := 0#32
  let c1_i32_243 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v345 : BitVec 32 := Scalar.subi c1_i32_243 v2
  let c2_i32_247 : BitVec 32 := 2#32
  let v346 : BitVec 32 := Scalar.muli v345 c2_i32_247
  let v347 : BitVec 32 := Scalar.addi c0_i32_248 v346
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_249 : BitVec 32 := 1#32
  let v348 : BitVec 32 := Scalar.muli v5 c1_i32_249
  let v349 : BitVec 32 := Scalar.addi v347 v348
  v349.toNat
def k0_dev21 (d0 : Dev nD) : Nat :=
  let c0_i32_259 : BitVec 32 := 0#32
  let c1_i32_254 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v360 : BitVec 32 := Scalar.subi c1_i32_254 v2
  let c2_i32_258 : BitVec 32 := 2#32
  let v361 : BitVec 32 := Scalar.muli v360 c2_i32_258
  let v362 : BitVec 32 := Scalar.addi c0_i32_259 v361
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_260 : BitVec 32 := 1#32
  let v363 : BitVec 32 := Scalar.muli v5 c1_i32_260
  let v364 : BitVec 32 := Scalar.addi v362 v363
  v364.toNat
def k0_dev22 (d0 : Dev nD) : Nat :=
  let c0_i32_270 : BitVec 32 := 0#32
  let c1_i32_265 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v375 : BitVec 32 := Scalar.subi c1_i32_265 v2
  let c2_i32_269 : BitVec 32 := 2#32
  let v376 : BitVec 32 := Scalar.muli v375 c2_i32_269
  let v377 : BitVec 32 := Scalar.addi c0_i32_270 v376
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_271 : BitVec 32 := 1#32
  let v378 : BitVec 32 := Scalar.muli v5 c1_i32_271
  let v379 : BitVec 32 := Scalar.addi v377 v378
  v379.toNat
def k0_dev23 (d0 : Dev nD) : Nat :=
  let c0_i32_281 : BitVec 32 := 0#32
  let c1_i32_276 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v390 : BitVec 32 := Scalar.subi c1_i32_276 v2
  let c2_i32_280 : BitVec 32 := 2#32
  let v391 : BitVec 32 := Scalar.muli v390 c2_i32_280
  let v392 : BitVec 32 := Scalar.addi c0_i32_281 v391
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_282 : BitVec 32 := 1#32
  let v393 : BitVec 32 := Scalar.muli v5 c1_i32_282
  let v394 : BitVec 32 := Scalar.addi v392 v393
  v394.toNat
def k0_dev24 (d0 : Dev nD) : Nat :=
  let c0_i32_292 : BitVec 32 := 0#32
  let c1_i32_287 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v405 : BitVec 32 := Scalar.subi c1_i32_287 v2
  let c2_i32_291 : BitVec 32 := 2#32
  let v406 : BitVec 32 := Scalar.muli v405 c2_i32_291
  let v407 : BitVec 32 := Scalar.addi c0_i32_292 v406
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_293 : BitVec 32 := 1#32
  let v408 : BitVec 32 := Scalar.muli v5 c1_i32_293
  let v409 : BitVec 32 := Scalar.addi v407 v408
  v409.toNat
def k0_dev25 (d0 : Dev nD) : Nat :=
  let c0_i32_303 : BitVec 32 := 0#32
  let c1_i32_298 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v420 : BitVec 32 := Scalar.subi c1_i32_298 v2
  let c2_i32_302 : BitVec 32 := 2#32
  let v421 : BitVec 32 := Scalar.muli v420 c2_i32_302
  let v422 : BitVec 32 := Scalar.addi c0_i32_303 v421
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_304 : BitVec 32 := 1#32
  let v423 : BitVec 32 := Scalar.muli v5 c1_i32_304
  let v424 : BitVec 32 := Scalar.addi v422 v423
  v424.toNat
def k0_dev26 (d0 : Dev nD) : Nat :=
  let c0_i32_314 : BitVec 32 := 0#32
  let c1_i32_309 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v435 : BitVec 32 := Scalar.subi c1_i32_309 v2
  let c2_i32_313 : BitVec 32 := 2#32
  let v436 : BitVec 32 := Scalar.muli v435 c2_i32_313
  let v437 : BitVec 32 := Scalar.addi c0_i32_314 v436
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_315 : BitVec 32 := 1#32
  let v438 : BitVec 32 := Scalar.muli v5 c1_i32_315
  let v439 : BitVec 32 := Scalar.addi v437 v438
  v439.toNat
def k0_dev27 (d0 : Dev nD) : Nat :=
  let c0_i32_325 : BitVec 32 := 0#32
  let c1_i32_320 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v450 : BitVec 32 := Scalar.subi c1_i32_320 v2
  let c2_i32_324 : BitVec 32 := 2#32
  let v451 : BitVec 32 := Scalar.muli v450 c2_i32_324
  let v452 : BitVec 32 := Scalar.addi c0_i32_325 v451
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_326 : BitVec 32 := 1#32
  let v453 : BitVec 32 := Scalar.muli v5 c1_i32_326
  let v454 : BitVec 32 := Scalar.addi v452 v453
  v454.toNat
def k0_dev28 (d0 : Dev nD) : Nat :=
  let c0_i32_336 : BitVec 32 := 0#32
  let c1_i32_331 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v465 : BitVec 32 := Scalar.subi c1_i32_331 v2
  let c2_i32_335 : BitVec 32 := 2#32
  let v466 : BitVec 32 := Scalar.muli v465 c2_i32_335
  let v467 : BitVec 32 := Scalar.addi c0_i32_336 v466
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_337 : BitVec 32 := 1#32
  let v468 : BitVec 32 := Scalar.muli v5 c1_i32_337
  let v469 : BitVec 32 := Scalar.addi v467 v468
  v469.toNat
def k0_dev29 (d0 : Dev nD) : Nat :=
  let c0_i32_347 : BitVec 32 := 0#32
  let c1_i32_342 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v480 : BitVec 32 := Scalar.subi c1_i32_342 v2
  let c2_i32_346 : BitVec 32 := 2#32
  let v481 : BitVec 32 := Scalar.muli v480 c2_i32_346
  let v482 : BitVec 32 := Scalar.addi c0_i32_347 v481
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_348 : BitVec 32 := 1#32
  let v483 : BitVec 32 := Scalar.muli v5 c1_i32_348
  let v484 : BitVec 32 := Scalar.addi v482 v483
  v484.toNat
def k0_dev30 (d0 : Dev nD) : Nat :=
  let c0_i32_358 : BitVec 32 := 0#32
  let c1_i32_353 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v495 : BitVec 32 := Scalar.subi c1_i32_353 v2
  let c2_i32_357 : BitVec 32 := 2#32
  let v496 : BitVec 32 := Scalar.muli v495 c2_i32_357
  let v497 : BitVec 32 := Scalar.addi c0_i32_358 v496
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_359 : BitVec 32 := 1#32
  let v498 : BitVec 32 := Scalar.muli v5 c1_i32_359
  let v499 : BitVec 32 := Scalar.addi v497 v498
  v499.toNat
def k0_dev31 (d0 : Dev nD) : Nat :=
  let c0_i32_369 : BitVec 32 := 0#32
  let c1_i32_364 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v510 : BitVec 32 := Scalar.subi c1_i32_364 v2
  let c2_i32_368 : BitVec 32 := 2#32
  let v511 : BitVec 32 := Scalar.muli v510 c2_i32_368
  let v512 : BitVec 32 := Scalar.addi c0_i32_369 v511
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_370 : BitVec 32 := 1#32
  let v513 : BitVec 32 := Scalar.muli v5 c1_i32_370
  let v514 : BitVec 32 := Scalar.addi v512 v513
  v514.toNat
def k0_dev32 (d0 : Dev nD) : Nat :=
  let c0_i32_380 : BitVec 32 := 0#32
  let c1_i32_375 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v525 : BitVec 32 := Scalar.subi c1_i32_375 v2
  let c2_i32_379 : BitVec 32 := 2#32
  let v526 : BitVec 32 := Scalar.muli v525 c2_i32_379
  let v527 : BitVec 32 := Scalar.addi c0_i32_380 v526
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_381 : BitVec 32 := 1#32
  let v528 : BitVec 32 := Scalar.muli v5 c1_i32_381
  let v529 : BitVec 32 := Scalar.addi v527 v528
  v529.toNat
def k0_dev33 (d0 : Dev nD) : Nat :=
  let c0_i32_391 : BitVec 32 := 0#32
  let c1_i32_386 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v540 : BitVec 32 := Scalar.subi c1_i32_386 v2
  let c2_i32_390 : BitVec 32 := 2#32
  let v541 : BitVec 32 := Scalar.muli v540 c2_i32_390
  let v542 : BitVec 32 := Scalar.addi c0_i32_391 v541
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_392 : BitVec 32 := 1#32
  let v543 : BitVec 32 := Scalar.muli v5 c1_i32_392
  let v544 : BitVec 32 := Scalar.addi v542 v543
  v544.toNat
def k0_dev34 (d0 : Dev nD) : Nat :=
  let c0_i32_402 : BitVec 32 := 0#32
  let c1_i32_397 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v555 : BitVec 32 := Scalar.subi c1_i32_397 v2
  let c2_i32_401 : BitVec 32 := 2#32
  let v556 : BitVec 32 := Scalar.muli v555 c2_i32_401
  let v557 : BitVec 32 := Scalar.addi c0_i32_402 v556
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_403 : BitVec 32 := 1#32
  let v558 : BitVec 32 := Scalar.muli v5 c1_i32_403
  let v559 : BitVec 32 := Scalar.addi v557 v558
  v559.toNat
def k0_dev35 (d0 : Dev nD) : Nat :=
  let c0_i32_413 : BitVec 32 := 0#32
  let c1_i32_408 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v570 : BitVec 32 := Scalar.subi c1_i32_408 v2
  let c2_i32_412 : BitVec 32 := 2#32
  let v571 : BitVec 32 := Scalar.muli v570 c2_i32_412
  let v572 : BitVec 32 := Scalar.addi c0_i32_413 v571
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_414 : BitVec 32 := 1#32
  let v573 : BitVec 32 := Scalar.muli v5 c1_i32_414
  let v574 : BitVec 32 := Scalar.addi v572 v573
  v574.toNat
def k0_dev36 (d0 : Dev nD) : Nat :=
  let c0_i32_424 : BitVec 32 := 0#32
  let c1_i32_419 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v585 : BitVec 32 := Scalar.subi c1_i32_419 v2
  let c2_i32_423 : BitVec 32 := 2#32
  let v586 : BitVec 32 := Scalar.muli v585 c2_i32_423
  let v587 : BitVec 32 := Scalar.addi c0_i32_424 v586
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_425 : BitVec 32 := 1#32
  let v588 : BitVec 32 := Scalar.muli v5 c1_i32_425
  let v589 : BitVec 32 := Scalar.addi v587 v588
  v589.toNat
def k0_dev37 (d0 : Dev nD) : Nat :=
  let c0_i32_435 : BitVec 32 := 0#32
  let c1_i32_430 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v600 : BitVec 32 := Scalar.subi c1_i32_430 v2
  let c2_i32_434 : BitVec 32 := 2#32
  let v601 : BitVec 32 := Scalar.muli v600 c2_i32_434
  let v602 : BitVec 32 := Scalar.addi c0_i32_435 v601
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_436 : BitVec 32 := 1#32
  let v603 : BitVec 32 := Scalar.muli v5 c1_i32_436
  let v604 : BitVec 32 := Scalar.addi v602 v603
  v604.toNat
def k0_dev38 (d0 : Dev nD) : Nat :=
  let c0_i32_446 : BitVec 32 := 0#32
  let c1_i32_441 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v615 : BitVec 32 := Scalar.subi c1_i32_441 v2
  let c2_i32_445 : BitVec 32 := 2#32
  let v616 : BitVec 32 := Scalar.muli v615 c2_i32_445
  let v617 : BitVec 32 := Scalar.addi c0_i32_446 v616
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_447 : BitVec 32 := 1#32
  let v618 : BitVec 32 := Scalar.muli v5 c1_i32_447
  let v619 : BitVec 32 := Scalar.addi v617 v618
  v619.toNat
def k0_dev39 (d0 : Dev nD) : Nat :=
  let c0_i32_457 : BitVec 32 := 0#32
  let c1_i32_452 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v630 : BitVec 32 := Scalar.subi c1_i32_452 v2
  let c2_i32_456 : BitVec 32 := 2#32
  let v631 : BitVec 32 := Scalar.muli v630 c2_i32_456
  let v632 : BitVec 32 := Scalar.addi c0_i32_457 v631
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_458 : BitVec 32 := 1#32
  let v633 : BitVec 32 := Scalar.muli v5 c1_i32_458
  let v634 : BitVec 32 := Scalar.addi v632 v633
  v634.toNat
def k0_dev40 (d0 : Dev nD) : Nat :=
  let c0_i32_468 : BitVec 32 := 0#32
  let c1_i32_463 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v645 : BitVec 32 := Scalar.subi c1_i32_463 v2
  let c2_i32_467 : BitVec 32 := 2#32
  let v646 : BitVec 32 := Scalar.muli v645 c2_i32_467
  let v647 : BitVec 32 := Scalar.addi c0_i32_468 v646
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_469 : BitVec 32 := 1#32
  let v648 : BitVec 32 := Scalar.muli v5 c1_i32_469
  let v649 : BitVec 32 := Scalar.addi v647 v648
  v649.toNat
def k0_dev41 (d0 : Dev nD) : Nat :=
  let c0_i32_479 : BitVec 32 := 0#32
  let c1_i32_474 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v660 : BitVec 32 := Scalar.subi c1_i32_474 v2
  let c2_i32_478 : BitVec 32 := 2#32
  let v661 : BitVec 32 := Scalar.muli v660 c2_i32_478
  let v662 : BitVec 32 := Scalar.addi c0_i32_479 v661
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_480 : BitVec 32 := 1#32
  let v663 : BitVec 32 := Scalar.muli v5 c1_i32_480
  let v664 : BitVec 32 := Scalar.addi v662 v663
  v664.toNat
def k0_dev42 (d0 : Dev nD) : Nat :=
  let c0_i32_490 : BitVec 32 := 0#32
  let c1_i32_485 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v675 : BitVec 32 := Scalar.subi c1_i32_485 v2
  let c2_i32_489 : BitVec 32 := 2#32
  let v676 : BitVec 32 := Scalar.muli v675 c2_i32_489
  let v677 : BitVec 32 := Scalar.addi c0_i32_490 v676
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_491 : BitVec 32 := 1#32
  let v678 : BitVec 32 := Scalar.muli v5 c1_i32_491
  let v679 : BitVec 32 := Scalar.addi v677 v678
  v679.toNat
def k0_dev43 (d0 : Dev nD) : Nat :=
  let c0_i32_501 : BitVec 32 := 0#32
  let c1_i32_496 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v690 : BitVec 32 := Scalar.subi c1_i32_496 v2
  let c2_i32_500 : BitVec 32 := 2#32
  let v691 : BitVec 32 := Scalar.muli v690 c2_i32_500
  let v692 : BitVec 32 := Scalar.addi c0_i32_501 v691
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_502 : BitVec 32 := 1#32
  let v693 : BitVec 32 := Scalar.muli v5 c1_i32_502
  let v694 : BitVec 32 := Scalar.addi v692 v693
  v694.toNat
def k0_dev44 (d0 : Dev nD) : Nat :=
  let c0_i32_512 : BitVec 32 := 0#32
  let c1_i32_507 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v705 : BitVec 32 := Scalar.subi c1_i32_507 v2
  let c2_i32_511 : BitVec 32 := 2#32
  let v706 : BitVec 32 := Scalar.muli v705 c2_i32_511
  let v707 : BitVec 32 := Scalar.addi c0_i32_512 v706
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_513 : BitVec 32 := 1#32
  let v708 : BitVec 32 := Scalar.muli v5 c1_i32_513
  let v709 : BitVec 32 := Scalar.addi v707 v708
  v709.toNat
def k0_dev45 (d0 : Dev nD) : Nat :=
  let c0_i32_523 : BitVec 32 := 0#32
  let c1_i32_518 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v720 : BitVec 32 := Scalar.subi c1_i32_518 v2
  let c2_i32_522 : BitVec 32 := 2#32
  let v721 : BitVec 32 := Scalar.muli v720 c2_i32_522
  let v722 : BitVec 32 := Scalar.addi c0_i32_523 v721
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_524 : BitVec 32 := 1#32
  let v723 : BitVec 32 := Scalar.muli v5 c1_i32_524
  let v724 : BitVec 32 := Scalar.addi v722 v723
  v724.toNat
def k0_dev46 (d0 : Dev nD) : Nat :=
  let c0_i32_534 : BitVec 32 := 0#32
  let c1_i32_529 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v735 : BitVec 32 := Scalar.subi c1_i32_529 v2
  let c2_i32_533 : BitVec 32 := 2#32
  let v736 : BitVec 32 := Scalar.muli v735 c2_i32_533
  let v737 : BitVec 32 := Scalar.addi c0_i32_534 v736
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_535 : BitVec 32 := 1#32
  let v738 : BitVec 32 := Scalar.muli v5 c1_i32_535
  let v739 : BitVec 32 := Scalar.addi v737 v738
  v739.toNat
def k0_dev47 (d0 : Dev nD) : Nat :=
  let c0_i32_545 : BitVec 32 := 0#32
  let c1_i32_540 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v750 : BitVec 32 := Scalar.subi c1_i32_540 v2
  let c2_i32_544 : BitVec 32 := 2#32
  let v751 : BitVec 32 := Scalar.muli v750 c2_i32_544
  let v752 : BitVec 32 := Scalar.addi c0_i32_545 v751
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_546 : BitVec 32 := 1#32
  let v753 : BitVec 32 := Scalar.muli v5 c1_i32_546
  let v754 : BitVec 32 := Scalar.addi v752 v753
  v754.toNat
def k0_dev48 (d0 : Dev nD) : Nat :=
  let c0_i32_556 : BitVec 32 := 0#32
  let c1_i32_551 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v765 : BitVec 32 := Scalar.subi c1_i32_551 v2
  let c2_i32_555 : BitVec 32 := 2#32
  let v766 : BitVec 32 := Scalar.muli v765 c2_i32_555
  let v767 : BitVec 32 := Scalar.addi c0_i32_556 v766
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_557 : BitVec 32 := 1#32
  let v768 : BitVec 32 := Scalar.muli v5 c1_i32_557
  let v769 : BitVec 32 := Scalar.addi v767 v768
  v769.toNat
def k0_dev49 (d0 : Dev nD) : Nat :=
  let c0_i32_567 : BitVec 32 := 0#32
  let c1_i32_562 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v780 : BitVec 32 := Scalar.subi c1_i32_562 v2
  let c2_i32_566 : BitVec 32 := 2#32
  let v781 : BitVec 32 := Scalar.muli v780 c2_i32_566
  let v782 : BitVec 32 := Scalar.addi c0_i32_567 v781
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_568 : BitVec 32 := 1#32
  let v783 : BitVec 32 := Scalar.muli v5 c1_i32_568
  let v784 : BitVec 32 := Scalar.addi v782 v783
  v784.toNat
def k0_dev50 (d0 : Dev nD) : Nat :=
  let c0_i32_578 : BitVec 32 := 0#32
  let c1_i32_573 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v795 : BitVec 32 := Scalar.subi c1_i32_573 v2
  let c2_i32_577 : BitVec 32 := 2#32
  let v796 : BitVec 32 := Scalar.muli v795 c2_i32_577
  let v797 : BitVec 32 := Scalar.addi c0_i32_578 v796
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_579 : BitVec 32 := 1#32
  let v798 : BitVec 32 := Scalar.muli v5 c1_i32_579
  let v799 : BitVec 32 := Scalar.addi v797 v798
  v799.toNat
def k0_dev51 (d0 : Dev nD) : Nat :=
  let c0_i32_589 : BitVec 32 := 0#32
  let c1_i32_584 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v810 : BitVec 32 := Scalar.subi c1_i32_584 v2
  let c2_i32_588 : BitVec 32 := 2#32
  let v811 : BitVec 32 := Scalar.muli v810 c2_i32_588
  let v812 : BitVec 32 := Scalar.addi c0_i32_589 v811
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_590 : BitVec 32 := 1#32
  let v813 : BitVec 32 := Scalar.muli v5 c1_i32_590
  let v814 : BitVec 32 := Scalar.addi v812 v813
  v814.toNat
def k0_dev52 (d0 : Dev nD) : Nat :=
  let c0_i32_600 : BitVec 32 := 0#32
  let c1_i32_595 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v825 : BitVec 32 := Scalar.subi c1_i32_595 v2
  let c2_i32_599 : BitVec 32 := 2#32
  let v826 : BitVec 32 := Scalar.muli v825 c2_i32_599
  let v827 : BitVec 32 := Scalar.addi c0_i32_600 v826
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_601 : BitVec 32 := 1#32
  let v828 : BitVec 32 := Scalar.muli v5 c1_i32_601
  let v829 : BitVec 32 := Scalar.addi v827 v828
  v829.toNat
def k0_dev53 (d0 : Dev nD) : Nat :=
  let c0_i32_611 : BitVec 32 := 0#32
  let c1_i32_606 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v840 : BitVec 32 := Scalar.subi c1_i32_606 v2
  let c2_i32_610 : BitVec 32 := 2#32
  let v841 : BitVec 32 := Scalar.muli v840 c2_i32_610
  let v842 : BitVec 32 := Scalar.addi c0_i32_611 v841
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_612 : BitVec 32 := 1#32
  let v843 : BitVec 32 := Scalar.muli v5 c1_i32_612
  let v844 : BitVec 32 := Scalar.addi v842 v843
  v844.toNat
def k0_dev54 (d0 : Dev nD) : Nat :=
  let c0_i32_622 : BitVec 32 := 0#32
  let c1_i32_617 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v855 : BitVec 32 := Scalar.subi c1_i32_617 v2
  let c2_i32_621 : BitVec 32 := 2#32
  let v856 : BitVec 32 := Scalar.muli v855 c2_i32_621
  let v857 : BitVec 32 := Scalar.addi c0_i32_622 v856
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_623 : BitVec 32 := 1#32
  let v858 : BitVec 32 := Scalar.muli v5 c1_i32_623
  let v859 : BitVec 32 := Scalar.addi v857 v858
  v859.toNat
def k0_dev55 (d0 : Dev nD) : Nat :=
  let c0_i32_633 : BitVec 32 := 0#32
  let c1_i32_628 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v870 : BitVec 32 := Scalar.subi c1_i32_628 v2
  let c2_i32_632 : BitVec 32 := 2#32
  let v871 : BitVec 32 := Scalar.muli v870 c2_i32_632
  let v872 : BitVec 32 := Scalar.addi c0_i32_633 v871
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_634 : BitVec 32 := 1#32
  let v873 : BitVec 32 := Scalar.muli v5 c1_i32_634
  let v874 : BitVec 32 := Scalar.addi v872 v873
  v874.toNat
def k0_dev56 (d0 : Dev nD) : Nat :=
  let c0_i32_644 : BitVec 32 := 0#32
  let c1_i32_639 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v885 : BitVec 32 := Scalar.subi c1_i32_639 v2
  let c2_i32_643 : BitVec 32 := 2#32
  let v886 : BitVec 32 := Scalar.muli v885 c2_i32_643
  let v887 : BitVec 32 := Scalar.addi c0_i32_644 v886
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_645 : BitVec 32 := 1#32
  let v888 : BitVec 32 := Scalar.muli v5 c1_i32_645
  let v889 : BitVec 32 := Scalar.addi v887 v888
  v889.toNat
def k0_dev57 (d0 : Dev nD) : Nat :=
  let c0_i32_655 : BitVec 32 := 0#32
  let c1_i32_650 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v900 : BitVec 32 := Scalar.subi c1_i32_650 v2
  let c2_i32_654 : BitVec 32 := 2#32
  let v901 : BitVec 32 := Scalar.muli v900 c2_i32_654
  let v902 : BitVec 32 := Scalar.addi c0_i32_655 v901
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_656 : BitVec 32 := 1#32
  let v903 : BitVec 32 := Scalar.muli v5 c1_i32_656
  let v904 : BitVec 32 := Scalar.addi v902 v903
  v904.toNat
def k0_dev58 (d0 : Dev nD) : Nat :=
  let c0_i32_666 : BitVec 32 := 0#32
  let c1_i32_661 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v915 : BitVec 32 := Scalar.subi c1_i32_661 v2
  let c2_i32_665 : BitVec 32 := 2#32
  let v916 : BitVec 32 := Scalar.muli v915 c2_i32_665
  let v917 : BitVec 32 := Scalar.addi c0_i32_666 v916
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_667 : BitVec 32 := 1#32
  let v918 : BitVec 32 := Scalar.muli v5 c1_i32_667
  let v919 : BitVec 32 := Scalar.addi v917 v918
  v919.toNat
def k0_dev59 (d0 : Dev nD) : Nat :=
  let c0_i32_677 : BitVec 32 := 0#32
  let c1_i32_672 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v930 : BitVec 32 := Scalar.subi c1_i32_672 v2
  let c2_i32_676 : BitVec 32 := 2#32
  let v931 : BitVec 32 := Scalar.muli v930 c2_i32_676
  let v932 : BitVec 32 := Scalar.addi c0_i32_677 v931
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_678 : BitVec 32 := 1#32
  let v933 : BitVec 32 := Scalar.muli v5 c1_i32_678
  let v934 : BitVec 32 := Scalar.addi v932 v933
  v934.toNat
def k0_dev60 (d0 : Dev nD) : Nat :=
  let c0_i32_688 : BitVec 32 := 0#32
  let c1_i32_683 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v945 : BitVec 32 := Scalar.subi c1_i32_683 v2
  let c2_i32_687 : BitVec 32 := 2#32
  let v946 : BitVec 32 := Scalar.muli v945 c2_i32_687
  let v947 : BitVec 32 := Scalar.addi c0_i32_688 v946
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_689 : BitVec 32 := 1#32
  let v948 : BitVec 32 := Scalar.muli v5 c1_i32_689
  let v949 : BitVec 32 := Scalar.addi v947 v948
  v949.toNat
def k0_dev61 (d0 : Dev nD) : Nat :=
  let c0_i32_699 : BitVec 32 := 0#32
  let c1_i32_694 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v960 : BitVec 32 := Scalar.subi c1_i32_694 v2
  let c2_i32_698 : BitVec 32 := 2#32
  let v961 : BitVec 32 := Scalar.muli v960 c2_i32_698
  let v962 : BitVec 32 := Scalar.addi c0_i32_699 v961
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_700 : BitVec 32 := 1#32
  let v963 : BitVec 32 := Scalar.muli v5 c1_i32_700
  let v964 : BitVec 32 := Scalar.addi v962 v963
  v964.toNat
def k0_dev62 (d0 : Dev nD) : Nat :=
  let c0_i32_710 : BitVec 32 := 0#32
  let c1_i32_705 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v975 : BitVec 32 := Scalar.subi c1_i32_705 v2
  let c2_i32_709 : BitVec 32 := 2#32
  let v976 : BitVec 32 := Scalar.muli v975 c2_i32_709
  let v977 : BitVec 32 := Scalar.addi c0_i32_710 v976
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_711 : BitVec 32 := 1#32
  let v978 : BitVec 32 := Scalar.muli v5 c1_i32_711
  let v979 : BitVec 32 := Scalar.addi v977 v978
  v979.toNat
def k0_dev63 (d0 : Dev nD) : Nat :=
  let c0_i32_721 : BitVec 32 := 0#32
  let c1_i32_716 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v990 : BitVec 32 := Scalar.subi c1_i32_716 v2
  let c2_i32_720 : BitVec 32 := 2#32
  let v991 : BitVec 32 := Scalar.muli v990 c2_i32_720
  let v992 : BitVec 32 := Scalar.addi c0_i32_721 v991
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_722 : BitVec 32 := 1#32
  let v993 : BitVec 32 := Scalar.muli v5 c1_i32_722
  let v994 : BitVec 32 := Scalar.addi v992 v993
  v994.toNat
def k0_dev64 (d0 : Dev nD) : Nat :=
  let c0_i32_732 : BitVec 32 := 0#32
  let c1_i32_727 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1005 : BitVec 32 := Scalar.subi c1_i32_727 v2
  let c2_i32_731 : BitVec 32 := 2#32
  let v1006 : BitVec 32 := Scalar.muli v1005 c2_i32_731
  let v1007 : BitVec 32 := Scalar.addi c0_i32_732 v1006
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_733 : BitVec 32 := 1#32
  let v1008 : BitVec 32 := Scalar.muli v5 c1_i32_733
  let v1009 : BitVec 32 := Scalar.addi v1007 v1008
  v1009.toNat
def k0_dev65 (d0 : Dev nD) : Nat :=
  let c0_i32_743 : BitVec 32 := 0#32
  let c1_i32_738 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1020 : BitVec 32 := Scalar.subi c1_i32_738 v2
  let c2_i32_742 : BitVec 32 := 2#32
  let v1021 : BitVec 32 := Scalar.muli v1020 c2_i32_742
  let v1022 : BitVec 32 := Scalar.addi c0_i32_743 v1021
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_744 : BitVec 32 := 1#32
  let v1023 : BitVec 32 := Scalar.muli v5 c1_i32_744
  let v1024 : BitVec 32 := Scalar.addi v1022 v1023
  v1024.toNat
def k0_dev66 (d0 : Dev nD) : Nat :=
  let c0_i32_755 : BitVec 32 := 0#32
  let c1_i32_749 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v1035 : BitVec 32 := Scalar.subi c1_i32_749 v2
  let c2_i32_754 : BitVec 32 := 2#32
  let v1036 : BitVec 32 := Scalar.muli v1035 c2_i32_754
  let v1037 : BitVec 32 := Scalar.addi c0_i32_755 v1036
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_756 : BitVec 32 := 1#32
  let v1038 : BitVec 32 := Scalar.muli v5 c1_i32_756
  let v1039 : BitVec 32 := Scalar.addi v1037 v1038
  v1039.toNat
def k0_off2 (i : grid0.Coords) : Fin 1 → Nat :=
  let arg0 : BitVec 32 := BitVec.ofNat 32 (i 0).val
  ![arg0.toNat]
def k0_off3 (i : grid0.Coords) : Fin 3 → Nat :=
  let arg0 : BitVec 32 := BitVec.ofNat 32 (i 0).val
  let c0_i32_9 : BitVec 32 := 0#32
  let c0_i32_10 : BitVec 32 := 0#32
  ![arg0.toNat, 0, 0]
def k0_off4 (i : grid0.Coords) (d0 : Dev nD) : Fin 3 → Nat :=
  let c0_i32_5 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32 : BitVec 32 := 4096#32
  let v10 : BitVec 32 := Scalar.muli v5 c4096_i32
  let arg0 : BitVec 32 := BitVec.ofNat 32 (i 0).val
  let c64_i32 : BitVec 32 := 64#32
  let v11 : BitVec 32 := Scalar.muli arg0 c64_i32
  let v12 : BitVec 32 := Scalar.addi v10 v11
  let c0_i32_11 : BitVec 32 := 0#32
  ![0, v12.toNat, 0]
def k0_cond2 (i : grid0.Coords) : BitVec 1 :=
  let arg0 : BitVec 32 := BitVec.ofNat 32 (i 0).val
  let c2_i32_12 : BitVec 32 := 2#32
  let v24 : BitVec 1 := Scalar.cmpi .sge arg0 c2_i32_12
  let v25 : BitVec 32 := Scalar.extui v24
  let c0_i32_13 : BitVec 32 := 0#32
  let v26 : BitVec 1 := Scalar.cmpi .ne v25 c0_i32_13
  v26

def k0_off5 (i : grid0.Coords) : Fin 1 → Nat :=
  let arg0 : BitVec 32 := BitVec.ofNat 32 (i 0).val
  let c2_i32_39 : BitVec 32 := 2#32
  let v77 : BitVec 32 := Scalar.subi arg0 c2_i32_39
  ![v77.toNat]
def k0_off6 (i : grid0.Coords) : Fin 3 → Nat :=
  let arg0 : BitVec 32 := BitVec.ofNat 32 (i 0).val
  let c2_i32_2 : BitVec 32 := 2#32
  let v6 : BitVec 32 := Scalar.remsi arg0 c2_i32_2
  let c0_i32_43 : BitVec 32 := 0#32
  let c0_i32_44 : BitVec 32 := 0#32
  ![v6.toNat, 0, 0]
def k0_off7 (i : grid0.Coords) : Fin 1 → Nat :=
  let arg0 : BitVec 32 := BitVec.ofNat 32 (i 0).val
  let c2_i32_2 : BitVec 32 := 2#32
  let v6 : BitVec 32 := Scalar.remsi arg0 c2_i32_2
  ![v6.toNat]
def k0_off8 (i : grid0.Coords) : Fin 3 → Nat :=
  let arg0 : BitVec 32 := BitVec.ofNat 32 (i 0).val
  let v29 : Index := Scalar.indexCast arg0
  let c0_16 : Index := 0#32
  let c0_17 : Index := 0#32
  ![v29.toNat, 0, 0]
def k0_off9 (i : grid0.Coords) : Fin 3 → Nat :=
  let arg0 : BitVec 32 := BitVec.ofNat 32 (i 0).val
  let c2_i32_2 : BitVec 32 := 2#32
  let v6 : BitVec 32 := Scalar.remsi arg0 c2_i32_2
  let v50 : Index := Scalar.indexCast v6
  let c0_24 : Index := 0#32
  let c0_25 : Index := 0#32
  ![v50.toNat, 0, 0]
def k0_off10 (i : grid0.Coords) : Fin 1 → Nat :=
  let arg0 : BitVec 32 := BitVec.ofNat 32 (i 0).val
  let c2_i32_2 : BitVec 32 := 2#32
  let v6 : BitVec 32 := Scalar.remsi arg0 c2_i32_2
  ![v6.toNat]
def k0_off11 (i : grid0.Coords) (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32_26 : BitVec 32 := 4096#32
  let v54 : BitVec 32 := Scalar.muli v5 c4096_i32_26
  let arg0 : BitVec 32 := BitVec.ofNat 32 (i 0).val
  let c64_i32_27 : BitVec 32 := 64#32
  let v55 : BitVec 32 := Scalar.muli arg0 c64_i32_27
  let v56 : BitVec 32 := Scalar.addi v54 v55
  let c0_i32_28 : BitVec 32 := 0#32
  ![v56.toNat, 0]
def k0_off12 (i : grid0.Coords) : Fin 3 → Nat :=
  let arg0 : BitVec 32 := BitVec.ofNat 32 (i 0).val
  let c2_i32_2 : BitVec 32 := 2#32
  let v6 : BitVec 32 := Scalar.remsi arg0 c2_i32_2
  let c0_i32_29 : BitVec 32 := 0#32
  let c0_i32_30 : BitVec 32 := 0#32
  ![v6.toNat, 0, 0]
def k0_dev67 (d0 : Dev nD) : Nat :=
  let c0_i32_33 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_32 : BitVec 32 := 2#32
  let v63 : BitVec 32 := Scalar.muli v2 c2_i32_32
  let v64 : BitVec 32 := Scalar.addi c0_i32_33 v63
  let c1_i32_31 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v62 : BitVec 32 := Scalar.subi c1_i32_31 v5
  let c1_i32_34 : BitVec 32 := 1#32
  let v65 : BitVec 32 := Scalar.muli v62 c1_i32_34
  let v66 : BitVec 32 := Scalar.addi v64 v65
  v66.toNat
def k0_cond3 (i : grid0.Coords) : BitVec 1 :=
  let arg0 : BitVec 32 := BitVec.ofNat 32 (i 0).val
  let c63_i32 : BitVec 32 := 63#32
  let v74 : BitVec 1 := Scalar.cmpi .eq arg0 c63_i32
  let v75 : BitVec 32 := Scalar.extui v74
  let c0_i32_38 : BitVec 32 := 0#32
  let v76 : BitVec 1 := Scalar.cmpi .ne v75 c0_i32_38
  v76

def k0_off13 (d0 : Dev nD) (c0_i32_40 : BitVec 32) : Fin 3 → Nat :=
  let c0_i32_43 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c4096_i32_39 : BitVec 32 := 4096#32
  let v77 : BitVec 32 := Scalar.muli v5 c4096_i32_39
  let v78 : BitVec 32 := Scalar.addi v77 c0_i32_40
  let c0_i32_47 : BitVec 32 := 0#32
  ![0, v78.toNat, 0]
def k0_off14 (d0 : Dev nD) (c0_i32_653 : BitVec 32) : Fin 2 → Nat :=
  let c1_i32_651 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v675 : BitVec 32 := Scalar.subi c1_i32_651 v5
  let c4096_i32_652 : BitVec 32 := 4096#32
  let v676 : BitVec 32 := Scalar.muli v675 c4096_i32_652
  let v677 : BitVec 32 := Scalar.addi v676 c0_i32_653
  let c0_i32_661 : BitVec 32 := 0#32
  ![v677.toNat, 0]
def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c64_i32 : BitVec 32 := 64#32
  let v1 : BitVec 32 := Scalar.muli v0 c64_i32
  let v2 : BitVec 32 := Scalar.addi v1 arg0
  let c0_i32 : BitVec 32 := 0#32
  let c0_i32_0 : BitVec 32 := 0#32
  let c0_i32_1 : BitVec 32 := 0#32
  ![c0_i32.toNat, v2.toNat, c0_i32_0.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c64_i32 : BitVec 32 := 64#32
  let v1 : BitVec 32 := Scalar.muli v0 c64_i32
  let v2 : BitVec 32 := Scalar.addi v1 arg0
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S2x8192x2048 : Shape := ⟨3, ![2, 8192, 2048]⟩
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 22
  | .vmem => 0
  | .smem => 0
  | _ => 0

abbrev bufTy : (tb : Table) → Fin (tcTables nBuf tb) → BufTy
  | .hbm, ⟨0, _⟩ => ⟨S2x8192x2048, .f32⟩
  | .hbm, ⟨1, _⟩ => ⟨S8192x2048, .f32⟩
  | .hbm, ⟨2, _⟩ => ⟨S2048, .f32⟩
  | .hbm, ⟨3, _⟩ => ⟨S_, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | _, _ => ⟨S2x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Body.lean ====
/- The kernel's body, written with loops: its printed text starts the 64 exchanges, and waits
   for the 64 departures and the 64 arrivals, one after the other; here each is a loop over the slots. -/
module

public import proofs.«01_k».proof.Proof.Gen.KernelIdeal.Skeleton

@[expose] public section

noncomputable section

namespace Cert.KernelIdeal.Hand

open Idealize.ShloMosaic Idealize.SL.Sem Cert.KernelIdeal.Gen

variable {F : FTy → Type} [FloatOps F]

/-- The programs a device's TensorCore runs in the kernel. -/
abbrev KProg (F : FTy → Type) [FloatOps F] : Type → Type 1 :=
  Prog (TpuEff nD τ sig (Elt F) Λ₀ .tc)

/-- `f k, f (k+1), …` for `n` slots, `n + k = 64`. -/
def loopFrom (f : Fin 64 → KProg F PUnit) : (n k : Nat) → n + k = 64 → KProg F PUnit
  | 0, _, _ => pure ⟨⟩
  | n + 1, k, h => do
      f ⟨k, by omega⟩
      loopFrom f n (k + 1) (by omega)

theorem inb64 (j : Fin 64) : ∀ a, (![j.val] : Fin 1 → Nat) a + S1.size a ≤ S64.size a := by
  intro a; fin_cases a; have := j.isLt; simp [S1, S64]; omega

theorem inb64x (j : Fin 64) :
    ∀ a, (![j.val, 0, 0] : Fin 3 → Nat) a + S1x64x2048.size a ≤ S64x64x2048.size a := by
  intro a; have := j.isLt; fin_cases a <;> simp [S1x64x2048, S64x64x2048]; omega

/-- One entry of a 64-entry semaphore array. -/
def semOf (s : DmaSems sig S64) (o : Fin 1 → Nat)
    (h : ∀ a, o a + S1.size a ≤ S64.size a) : DmaSem sig :=
  ((s.slice (Rect.unit (s := S64) o S1.size h)).squeeze S_ squeezes_S1_S_).sem

/-- One entry of a 2-entry semaphore array. -/
def semOf2 (s : DmaSems sig S2) (o : Fin 1 → Nat)
    (h : ∀ a, o a + S1.size a ≤ S2.size a) : DmaSem sig :=
  ((s.slice (Rect.unit (s := S2) o S1.size h)).squeeze S_ squeezes_S1_S_).sem

/-- The barrier's semaphore. -/
def barS : Sem sig := (SemArray.scalar (sig.barrier 0 rfl) : Sems sig S_).sem

/-- 64 rows of the partial sums. -/
def srcOf (m : Memref sig .tc .hbm S1x8192x2048 .f32) (o : Fin 3 → Nat)
    (h : ∀ a, o a + S1x64x2048.size a ≤ S1x8192x2048.size a) : Memref sig .tc .hbm S64x2048 .f32 :=
  (m.slice (Rect.unit (s := S1x8192x2048) o S1x64x2048.size h) (fun _ => rfl)).squeeze
    S64x2048 squeezes_S1x64x2048_S64x2048

/-- A slot of the buffer the exchanges arrive in. -/
def slotOf (m : Memref sig .tc .vmem S64x64x2048 .f32) (o : Fin 3 → Nat)
    (h : ∀ a, o a + S1x64x2048.size a ≤ S64x64x2048.size a) : Memref sig .tc .vmem S64x2048 .f32 :=
  (m.slice (Rect.unit (s := S64x64x2048) o S1x64x2048.size h) (fun _ => rfl)).squeeze
    S64x2048 squeezes_S1x64x2048_S64x2048

/-- A slot of the buffer the blocks leave from. -/
def outOf (m : Memref sig .tc .vmem S2x64x2048 .f32) (o : Fin 3 → Nat)
    (h : ∀ a, o a + S1x64x2048.size a ≤ S2x64x2048.size a) : Memref sig .tc .vmem S64x2048 .f32 :=
  (m.slice (Rect.unit (s := S2x64x2048) o S1x64x2048.size h) (fun _ => rfl)).squeeze
    S64x2048 squeezes_S1x64x2048_S64x2048

/-- 64 rows of the result. -/
def resOf (m : Memref sig .tc .hbm S8192x2048 .f32) (o : Fin 2 → Nat)
    (h : ∀ a, o a + S64x2048.size a ≤ S8192x2048.size a) : Memref sig .tc .hbm S64x2048 .f32 :=
  m.slice (Rect.unit (s := S8192x2048) o S64x2048.size h) (fun _ => rfl)

/-- A part of the kernel run under a condition. -/
def whenC (p : Prop) [Decidable p] (f : p → KProg F PUnit) : KProg F PUnit :=
  if h : p then f h else pure ⟨⟩

section
variable (i : grid0.Coords) (c : Dev nD)
  (arg2 : Memref sig .tc .hbm S1x8192x2048 .f32) (arg6 : Memref sig .tc .hbm S8192x2048 .f32)
  (arg7 : Memref sig .tc .vmem S64x64x2048 .f32) (arg8 : Memref sig .tc .vmem S2x64x2048 .f32)
  (arg9 arg10 arg11 arg12 : DmaSems sig S64) (arg13 : DmaSems sig S2)

/-- The start of exchange `j`: 64 rows of the partial sums to the peer's slot `j`. -/
def startX (h1 : k0_cond1 i = 1#1) (j : Fin 64) : KProg F PUnit :=
  Prog.lift (.enqueueDma (srcOf arg2 (k0_off1 c (BitVec.ofNat 32 (64 * j.val))) (k0_off1_inb i c h1 j))
    (.remote (Dev.tc (⟨k0_dev3 c, k0_dev3_lt i c h1⟩ : Dev nD))
      (slotOf arg7 ![j.val, 0, 0] (inb64x j)) (.dma (semOf arg9 ![j.val] (inb64 j))))
    (.dma (semOf arg10 ![j.val] (inb64 j)))
    ((View.wordExact_bits rfl).reshape _ _) ((View.wordExact_bits rfl).reshape _ _)
    ⟨⟨rfl, Or.inl rfl⟩, trivial⟩)

/-- The wait for the departure of exchange `j`. -/
def waitSx (h3 : k0_cond3 i = 1#1) (j : Fin 64) : KProg F PUnit :=
  Prog.lift (.waitDma2 (semOf arg9 ![j.val] (inb64 j)) (slotOf arg7 ![j.val, 0, 0] (inb64x j))
    (srcOf arg2 (k0_off13 c (BitVec.ofNat 32 (64 * j.val))) (k0_off13_inb i c h3 j))
    ((View.wordExact_bits rfl).reshape _ _) ((View.wordExact_bits rfl).reshape _ _))

/-- The wait for the arrival of the peer's block `j`. -/
def waitRy (h3 : k0_cond3 i = 1#1) (j : Fin 64) : KProg F PUnit :=
  Prog.lift (.waitDma2 (semOf arg12 ![j.val] (inb64 j))
    (outOf arg8 ![0, 0, 0] inb_S2x64x2048_S1x64x2048_0_0_0)
    (resOf arg6 (k0_off14 c (BitVec.ofNat 32 (64 * j.val))) (k0_off14_inb i c h3 j))
    ((View.wordExact_bits rfl).reshape _ _) (View.wordExact_bits rfl))

/-- The wait for the departure of a block sent to the peer. -/
def waitSy (o : Fin 1 → Nat) (ho : ∀ a, o a + S1.size a ≤ S64.size a) (q : Fin 3 → Nat)
    (hq : ∀ a, q a + S1x64x2048.size a ≤ S2x64x2048.size a) : KProg F PUnit :=
  Prog.lift (.waitDma2 (semOf arg11 o ho)
    (resOf arg6 ![0, 0] inb_S8192x2048_S64x2048_0_0) (outOf arg8 q hq)
    (View.wordExact_bits rfl) ((View.wordExact_bits rfl).reshape _ _))

/-- The wait for a block written to the device's own result. -/
def waitLc (o : Fin 1 → Nat) (ho : ∀ a, o a + S1.size a ≤ S2.size a) (q : Fin 3 → Nat)
    (hq : ∀ a, q a + S1x64x2048.size a ≤ S2x64x2048.size a) : KProg F PUnit :=
  Prog.lift (.waitDma2 (semOf2 arg13 o ho)
    (outOf arg8 q hq) (resOf arg6 ![0, 0] inb_S8192x2048_S64x2048_0_0)
    ((View.wordExact_bits rfl).reshape _ _) (View.wordExact_bits rfl))

/-- The first step's opening: the barrier, then the 64 exchanges. -/
def opening (h1 : k0_cond1 i = 1#1) : KProg F PUnit := do
  semSignalWord (⟨k0_dev1 c, k0_dev1_lt i c h1⟩ : Dev nD) barS 1#32
  semSignalWord (⟨k0_dev2 c, k0_dev2_lt i c h1⟩ : Dev nD) barS 1#32
  semWaitWord barS 2#32
  loopFrom (startX i c arg2 arg7 arg9 arg10 h1) 64 0 rfl

/-- The last step's ending: every wait still outstanding. -/
def ending (h3 : k0_cond3 i = 1#1) : KProg F PUnit := do
  loopFrom (waitSx i c arg2 arg7 arg9 h3) 64 0 rfl
  waitSy arg6 arg8 arg11 ![62] inb_S64_S1_62 ![0, 0, 0] inb_S2x64x2048_S1x64x2048_0_0_0
  waitLc arg6 arg8 arg13 ![0] inb_S2_S1_0 ![0, 0, 0] inb_S2x64x2048_S1x64x2048_0_0_0
  waitSy arg6 arg8 arg11 ![63] inb_S64_S1_63 ![1, 0, 0] inb_S2x64x2048_S1x64x2048_1_0_0
  waitLc arg6 arg8 arg13 ![1] inb_S2_S1_1 ![1, 0, 0] inb_S2x64x2048_S1x64x2048_1_0_0
  loopFrom (waitRy i c arg6 arg8 arg12 h3) 64 0 rfl

/-- The wait for the peer's partial sums of step `i`. -/
def waitRx : KProg F PUnit :=
  Prog.lift (.waitDma2 (semOf arg10 (k0_off2 i) (k0_off2_inb i))
    (srcOf arg2 (k0_off4 i c) (k0_off4_inb i c)) (slotOf arg7 (k0_off3 i) (k0_off3_inb i))
    ((View.wordExact_bits rfl).reshape _ _) ((View.wordExact_bits rfl).reshape _ _))

/-- From step 2 on: the waits for the slot's previous block to have left. -/
def reuse (h2 : k0_cond2 i = 1#1) : KProg F PUnit := do
  waitSy arg6 arg8 arg11 (k0_off5 i) (k0_off5_inb i h2) (k0_off6 i) (k0_off6_inb i h2)
  waitLc arg6 arg8 arg13 (k0_off7 i) (k0_off7_inb i h2) (k0_off6 i) (k0_off6_inb i h2)

/-- The start of the step's write to the device's own result. -/
def startLc : KProg F PUnit :=
  Prog.lift (.enqueueDma (outOf arg8 (k0_off12 i) (k0_off12_inb i))
    (.here (resOf arg6 (k0_off11 i c) (k0_off11_inb i c)))
    (.dma (semOf2 arg13 (k0_off10 i) (k0_off10_inb i)))
    ((View.wordExact_bits rfl).reshape _ _) (View.wordExact_bits rfl) ⟨Or.inl rfl, trivial⟩)

/-- The start of the step's block to the peer's result. -/
def startSy : KProg F PUnit :=
  Prog.lift (.enqueueDma (outOf arg8 (k0_off12 i) (k0_off12_inb i))
    (.remote (Dev.tc (⟨k0_dev67 c, k0_dev67_lt c⟩ : Dev nD))
      (resOf arg6 (k0_off11 i c) (k0_off11_inb i c)) (.dma (semOf arg11 (k0_off2 i) (k0_off2_inb i))))
    (.dma (semOf arg12 (k0_off2 i) (k0_off2_inb i)))
    ((View.wordExact_bits rfl).reshape _ _) (View.wordExact_bits rfl) ⟨⟨rfl, Or.inl rfl⟩, trivial⟩)

variable (arg3 : Memref sig .tc .vmem S1x64x2048 .f32) (arg4 : Memref sig .tc .vmem S64x2048 .f32)
  (arg5 : Memref sig .tc .vmem S1x2048 .f32)

/-- The kernel's body with its repeated parts as loops. -/
def bodyC : KProg F PUnit := do
  let c : Dev nD ← Prog.lift .deviceId
  whenC (k0_cond1 i = 1#1) fun h1 => opening i c arg2 arg7 arg9 arg10 h1
  waitRx i c arg2 arg7 arg10
  whenC (k0_cond2 i = 1#1) fun h2 => reuse i arg6 arg8 arg11 arg13 h2
  let v27 : Vec F S1x64x2048 .f32 ← Prog.lift (.load arg3 (Rect.unit (s := S1x64x2048) ![0, 0, 0] S1x64x2048.size inb_S1x64x2048_S1x64x2048_0_0_0).toLoadRect (View.loadsAt_vmem h_S1x64x2048))
  let v30 : Vec F S1x64x2048 .f32 ← Prog.lift (.load arg7 (Rect.unit (s := S64x64x2048) (k0_off8 i) S1x64x2048.size (k0_off8_inb i)).toLoadRect (View.loadsAt_vmem h_S1x64x2048))
  let v33 : Vec F S64x2048 .f32 ← Prog.lift (.load arg4 (Rect.unit (s := S64x2048) ![0, 0] S64x2048.size inb_S64x2048_S64x2048_0_0).toLoadRect (View.loadsAt_vmem h_S64x2048))
  let v46 : Vec F S1x2048 .f32 ← Prog.lift (.load arg5 (Rect.unit (s := S1x2048) ![0, 0] S1x2048.size inb_S1x2048_S1x2048_0_0).toLoadRect (View.loadsAt_vmem h_S1x2048))
  let v51 : Vec F S1x64x2048 .f32 ← Prog.lift (.load arg8 (Rect.unit (s := S2x64x2048) (k0_off9 i) S1x64x2048.size (k0_off9_inb i)).toLoadRect (View.loadsAt_vmem h_S1x64x2048))
  Prog.lift (.store arg8 (Rect.unit (s := S2x64x2048) (k0_off9 i) S1x64x2048.size (k0_off9_inb i)) (k0_pay2 (k0_pay1 v27) v30 v33 v46) Finset.univ (View.stores_vmem_bits_univ h_S1x64x2048 rfl) (.inl rfl))
  startLc i c arg6 arg8 arg13
  startSy i c arg6 arg8 arg11 arg12
  whenC (k0_cond3 i = 1#1) fun h3 => ending i c arg2 arg6 arg7 arg8 arg9 arg11 arg12 arg13 h3

/-- The body up to its second load, with the words it hands on. -/
def firstHalf : KProg F (Σ' (_ : BitVec 32) (_ : Dev nD) (_ : BitVec 32) (_ : BitVec 32) (_ : BitVec 32)
    (_ : FVec F S64x2048 .f32), Vec F S1x64x2048 .f32) := do
  let c : Dev nD ← Prog.lift .deviceId
  if h1 : k0_cond1 i = 1#1 then opening i c arg2 arg7 arg9 arg10 h1 else pure ⟨⟩
  waitRx i c arg2 arg7 arg10
  if h2 : k0_cond2 i = 1#1 then reuse i arg6 arg8 arg11 arg13 h2 else pure ⟨⟩
  let v27 : Vec F S1x64x2048 .f32 ← Prog.lift (.load arg3 (Rect.unit (s := S1x64x2048) ![0, 0, 0] S1x64x2048.size inb_S1x64x2048_S1x64x2048_0_0_0).toLoadRect (View.loadsAt_vmem h_S1x64x2048))
  let v30 : Vec F S1x64x2048 .f32 ← Prog.lift (.load arg7 (Rect.unit (s := S64x64x2048) (k0_off8 i) S1x64x2048.size (k0_off8_inb i)).toLoadRect (View.loadsAt_vmem h_S1x64x2048))
  pure ⟨BitVec.ofNat 32 (i 0).val, c, Scalar.remsi (Scalar.divsi (Dev.word c) 2#32) 2#32,
    Scalar.remsi (Scalar.divsi (Dev.word c) 1#32) 2#32,
    Scalar.remsi (BitVec.ofNat 32 (i 0).val) 2#32, k0_pay1 v27, v30⟩

section
variable (arg1 : Memref sig .tc .smem S1 .i32) (harg1 : arg1.IsWhole)
    (harg2 : arg2.IsWhole) (harg3 : arg3.IsWhole) (harg4 : arg4.IsWhole) (harg5 : arg5.IsWhole)
    (harg6 : arg6.IsWhole) (harg7 : arg7.IsWhole) (harg8 : arg8.IsWhole)

set_option maxRecDepth 65536 in
/-- The printed ending is the one with loops: both unfold to the same sequence of operations. -/
theorem part84_eq (v2 v5 : BitVec 32) (h3 : k0_cond3 i = 1#1) :
    k0_part84 (F := F) i arg1 harg1 arg2 harg2 arg3 harg3 arg4 harg4 arg5 harg5 arg6 harg6 arg7 harg7
      arg8 harg8 arg9 arg10 arg11 arg12 arg13 c v2 v5 h3
      = ending i c arg2 arg6 arg7 arg8 arg9 arg11 arg12 arg13 h3 := rfl

set_option maxRecDepth 65536 in
/-- The printed first half is the one with loops. -/
theorem part85_eq :
    k0_part85 (F := F) i arg1 harg1 arg2 harg2 arg3 harg3 arg4 harg4 arg5 harg5 arg6 harg6 arg7 harg7
      arg8 harg8 arg9 arg10 arg11 arg12 arg13
      = firstHalf i arg2 arg6 arg7 arg8 arg9 arg10 arg11 arg13 arg3 := rfl

/-- The printed body is the one with loops. -/
theorem cc0_body_eq :
    cc0_body (F := F) i arg1 harg1 arg2 harg2 arg3 harg3 arg4 harg4 arg5 harg5 arg6 harg6 arg7 harg7
      arg8 harg8 arg9 arg10 arg11 arg12 arg13
      = bodyC i arg2 arg6 arg7 arg8 arg9 arg10 arg11 arg12 arg13 arg3 arg4 arg5 := by
  rw [cc0_body_eq_skeleton]
  unfold cc0_body_skel
  rw [part85_eq, firstHalf, bodyC]
  refine congrArg (Prog.op _) (funext fun c => ?_)
  simp only [k0_part86_eq_skeleton, part84_eq]
  by_cases h1 : k0_cond1 i = 1#1 <;> by_cases h2 : k0_cond2 i = 1#1 <;>
    by_cases h3 : k0_cond3 i = 1#1 <;>
    simp only [whenC, h1, h2, h3, dite_true, dite_false] <;> rfl
end

end

end Cert.KernelIdeal.Hand

end
-- ==== Proof.Geom.lean ====
/- Where the kernel's slices lie, which device is which device's peer, and what the exchanged
   arrays hold. -/
module

public import proofs.«01_k».proof.Proof.Body
public import Idealize.ShloMosaic.Lib.ValueLayout
public import Idealize.ShloMosaic.Lib.Exec

@[expose] public section

noncomputable section

namespace Cert.KernelIdeal.Hand

open Idealize.ShloMosaic Idealize.ShloMosaic.TcCoe Idealize.SL.Sem Cert.KernelIdeal.Gen Idealize.ShloMosaic.ValueIdx

variable {F : FTy → Type} [FloatOps F]

/-! ## The mesh -/

/-- The half of the rows a device computes: its second mesh coordinate. -/
def yc (c : Dev nD) : Nat := c.val % 2

theorem yc_lt (c : Dev nD) : yc c < 2 := Nat.mod_lt _ (by decide)

/-- The device holding the other partial sum of the same rows. -/
def xp (c : Dev nD) : Dev nD := ⟨(c.val % 2 + 2) - 2 * (c.val / 2), by revert c; decide⟩
/-- The device computing the other half of the rows. -/
def yp (c : Dev nD) : Dev nD := ⟨(2 * (c.val / 2) + 1) - c.val % 2, by revert c; decide⟩
/-- The device of `c`'s pair along the second axis that computes half `y`. -/
def owner (c : Dev nD) (y : Nat) : Dev nD := ⟨2 * (c.val / 2) + y % 2, by have := c.isLt; have := Nat.mod_lt y (show 0 < 2 by decide); simp only [nD] at *; omega⟩

theorem xp_xp (c : Dev nD) : xp (xp c) = c := by revert c; decide
theorem yp_yp (c : Dev nD) : yp (yp c) = c := by revert c; decide
theorem xp_ne (c : Dev nD) : xp c ≠ c := by revert c; decide
theorem yp_ne (c : Dev nD) : yp c ≠ c := by revert c; decide
theorem xp_ne_yp (c : Dev nD) : xp c ≠ yp c := by revert c; decide
theorem yc_xp (c : Dev nD) : yc (xp c) = yc c := by revert c; decide
theorem yc_yp (c : Dev nD) : yc (yp c) = 1 - yc c := by revert c; decide
theorem owner_self (c : Dev nD) : owner c (yc c) = c := by revert c; decide
theorem owner_yp (c : Dev nD) : owner (yp c) (yc c) = c := by revert c; decide
theorem owner_other (c : Dev nD) : owner c (1 - yc c) = yp c := by revert c; decide

theorem dev1_eq (c : Dev nD) (h) : (⟨k0_dev1 c, h⟩ : Dev nD) = xp c := Fin.ext (k0_dev1_eq c)
theorem dev2_eq (c : Dev nD) (h) : (⟨k0_dev2 c, h⟩ : Dev nD) = yp c := Fin.ext (k0_dev2_eq c)
theorem dev3_eq (c : Dev nD) (h) : (⟨k0_dev3 c, h⟩ : Dev nD) = xp c := Fin.ext (k0_dev3_eq c)
theorem dev67_eq (c : Dev nD) (h) : (⟨k0_dev67 c, h⟩ : Dev nD) = yp c := Fin.ext (k0_dev67_eq c)

/-- The block of 64 rows, of 128, that half `y` visits at step `j`. -/
def blk (y j : Nat) : Nat := 64 * y + j

/-! ## Elements: the blocks of rows and the slots -/

/-- Block `b` of the partial sums' rows. -/
def srcSet (b : Nat) : Finset S1x8192x2048.Idx := Finset.univ.filter fun i => (i 1).val / 64 = b
/-- Block `b` of the result's rows. -/
def resSet (b : Nat) : Finset S8192x2048.Idx := Finset.univ.filter fun i => (i 0).val / 64 = b
/-- Slot `j` of the buffer the exchanges arrive in. -/
def slotSet (j : Nat) : Finset S64x64x2048.Idx := Finset.univ.filter fun i => (i 0).val = j
/-- Slot `s` of the buffer the blocks leave from. -/
def outSet (s : Nat) : Finset S2x64x2048.Idx := Finset.univ.filter fun i => (i 0).val = s

theorem srcOf_set (b : Nat) (o : Fin 3 → Nat) (h) (e : o = ![0, 64 * b, 0]) :
    (srcOf (Memref.whole main_arg0) o h).view.set = srcSet b := by
  subst e
  unfold srcOf
  rw [Memref.set_view_squeeze]
  refine (View.set_slice_whole main_arg0 _).trans ?_
  refine Finset.ext fun (i : S1x8192x2048.Idx) => ?_
  rw [Rect.mem_set_unit, srcSet, Finset.mem_filter]
  constructor
  · intro hi
    have h1 := hi 1
    simp [S1x64x2048] at h1
    exact ⟨Finset.mem_univ _, by omega⟩
  · rintro ⟨-, hi⟩ a
    have hl : (i a).val < S1x8192x2048.size a := (i a).isLt
    fin_cases a <;> simp [S1x8192x2048, S1x64x2048] at hl hi ⊢ <;> omega

theorem slotOf_set (j : Nat) (o : Fin 3 → Nat) (h) (e : o = ![j, 0, 0]) :
    (slotOf (Memref.whole cc0_scratch0) o h).view.set = slotSet j := by
  subst e
  unfold slotOf
  rw [Memref.set_view_squeeze]
  refine (View.set_slice_whole cc0_scratch0 _).trans ?_
  refine Finset.ext fun (i : S64x64x2048.Idx) => ?_
  rw [Rect.mem_set_unit, slotSet, Finset.mem_filter]
  constructor
  · intro hi
    have h1 := hi 0
    simp [S1x64x2048] at h1
    exact ⟨Finset.mem_univ _, by omega⟩
  · rintro ⟨-, hi⟩ a
    have hl : (i a).val < S64x64x2048.size a := (i a).isLt
    fin_cases a <;> simp [S64x64x2048, S1x64x2048] at hl hi ⊢ <;> omega

theorem outOf_set (j : Nat) (o : Fin 3 → Nat) (h) (e : o = ![j, 0, 0]) :
    (outOf (Memref.whole cc0_scratch1) o h).view.set = outSet j := by
  subst e
  unfold outOf
  rw [Memref.set_view_squeeze]
  refine (View.set_slice_whole cc0_scratch1 _).trans ?_
  refine Finset.ext fun (i : S2x64x2048.Idx) => ?_
  rw [Rect.mem_set_unit, outSet, Finset.mem_filter]
  constructor
  · intro hi
    have h1 := hi 0
    simp [S1x64x2048] at h1
    exact ⟨Finset.mem_univ _, by omega⟩
  · rintro ⟨-, hi⟩ a
    have hl : (i a).val < S2x64x2048.size a := (i a).isLt
    fin_cases a <;> simp [S2x64x2048, S1x64x2048] at hl hi ⊢ <;> omega

theorem resOf_set (b : Nat) (o : Fin 2 → Nat) (h) (e : o = ![64 * b, 0]) :
    (resOf (Memref.whole main_v7) o h).view.set = resSet b := by
  subst e
  unfold resOf
  refine (View.set_slice_whole main_v7 _).trans ?_
  refine Finset.ext fun (i : S8192x2048.Idx) => ?_
  rw [Rect.mem_set_unit, resSet, Finset.mem_filter]
  constructor
  · intro hi
    have h1 := hi 0
    simp [S64x2048] at h1
    exact ⟨Finset.mem_univ _, by omega⟩
  · rintro ⟨-, hi⟩ a
    have hl : (i a).val < S8192x2048.size a := (i a).isLt
    fin_cases a <;> simp [S8192x2048, S64x2048] at hl hi ⊢ <;> omega

/-! ## Contents -/

variable (m : (ℓ : Loc nD τ sig) → Buf (Elt F) ℓ)

/-- A device's partial sums at launch. -/
def argP (c : Dev nD) : Vec F S1x8192x2048 .f32 := m ((c : Thread nD τ).loc main_arg0)
/-- A device's residual at launch. -/
def argR (c : Dev nD) : Vec F S8192x2048 .f32 := m ((c : Thread nD τ).loc main_arg1)
/-- A device's scale at launch, as the kernel takes it. -/
def gam (c : Dev nD) : Vec F S1x2048 .f32 :=
  fun i => (m ((c : Thread nD τ).loc main_arg2) : Vec F S2048 .f32) (ix1 (i 1))

/-- Block `b` of a device's partial sums. -/
def partB (c : Dev nD) (b : Nat) : Vec F S1x64x2048 .f32 :=
  fun i => argP m c (ix3 (i 0) (⟨(64 * b + (i 1).val) % 8192, Nat.mod_lt _ (by decide)⟩ : Fin 8192) (i 2))
/-- Block `b` of a device's residual. -/
def residB (c : Dev nD) (b : Nat) : Vec F S64x2048 .f32 :=
  fun i => argR m c (ix2 (⟨(64 * b + (i 0).val) % 8192, Nat.mod_lt _ (by decide)⟩ : Fin 8192) (i 1))

/-- What device `c` computes for block `b` from its own and its peer's partial sums. -/
def outRows (c : Dev nD) (b : Nat) : FVec F S1x64x2048 .f32 :=
  k0_pay2 (k0_pay1 (partB m c b)) (partB m (xp c) b) (residB m c b) (gam m c)

/-- The result on device `c`: each half as computed by the pair's device for that half. -/
def resV (c : Dev nD) : Vec F S8192x2048 .f32 :=
  fun i => outRows m (owner c ((i 0).val / 4096)) ((i 0).val / 64)
    (ix3 (0 : Fin 1) (⟨(i 0).val % 64, Nat.mod_lt _ (by decide)⟩ : Fin 64) (i 1))

/-- The buffer of departures with block `b`'s rows in every slot. -/
def outV (c : Dev nD) (b : Nat) : Vec F S2x64x2048 .f32 :=
  fun i => outRows m c b (ix3 (0 : Fin 1) (i 1) (i 2))

/-- The buffer of arrivals, every exchange landed: slot `j` has the peer's block of step `j`. -/
def landV (c : Dev nD) : Vec F S64x64x2048 .f32 :=
  fun i => partB m (xp c) (blk (yc c) (i 0).val) (ix3 (0 : Fin 1) (i 1) (i 2))

/-! ## Where an index of a slice sits -/

theorem srcOf_emb (b : Nat) (o : Fin 3 → Nat) (h) (e : o = ![0, 64 * b, 0]) (x : Fin 64) (y : Fin 2048) (hb : 64 * b + x.val < 8192) :
    (srcOf (Memref.whole main_arg0) o h).view.emb (ix2 x y)
      = (ix3 (0 : Fin 1) (⟨64 * b + x.val, hb⟩ : Fin 8192) y : S1x8192x2048.Idx) := by
  subst e
  show (Rect.unit (s := S1x8192x2048) _ S1x64x2048.size h).emb (Shape.reshapeEquiv _ (ix2 x y)) = _
  rw [reshapeEquiv_ix2_1ab]
  funext a
  apply Fin.ext
  rw [Rect.emb_apply]
  fin_cases a <;> simp [ix3, Rect.unit]

theorem slotOf_emb (j : Fin 64) (o : Fin 3 → Nat) (h) (e : o = ![j.val, 0, 0]) (x : Fin 64) (y : Fin 2048) :
    (slotOf (Memref.whole cc0_scratch0) o h).view.emb (ix2 x y) = (ix3 j x y : S64x64x2048.Idx) := by
  subst e
  show (Rect.unit (s := S64x64x2048) _ S1x64x2048.size h).emb (Shape.reshapeEquiv _ (ix2 x y)) = _
  rw [reshapeEquiv_ix2_1ab]
  funext a
  apply Fin.ext
  rw [Rect.emb_apply]
  fin_cases a <;> simp [ix3, Rect.unit]

theorem outOf_emb (j : Fin 2) (o : Fin 3 → Nat) (h) (e : o = ![j.val, 0, 0]) (x : Fin 64) (y : Fin 2048) :
    (outOf (Memref.whole cc0_scratch1) o h).view.emb (ix2 x y) = (ix3 j x y : S2x64x2048.Idx) := by
  subst e
  show (Rect.unit (s := S2x64x2048) _ S1x64x2048.size h).emb (Shape.reshapeEquiv _ (ix2 x y)) = _
  rw [reshapeEquiv_ix2_1ab]
  funext a
  apply Fin.ext
  rw [Rect.emb_apply]
  fin_cases a <;> simp [ix3, Rect.unit]

theorem resOf_emb (b : Nat) (o : Fin 2 → Nat) (h) (e : o = ![64 * b, 0]) (x : Fin 64) (y : Fin 2048) (hb : 64 * b + x.val < 8192) :
    (resOf (Memref.whole main_v7) o h).view.emb (ix2 x y) = (ix2 (⟨64 * b + x.val, hb⟩ : Fin 8192) y : S8192x2048.Idx) := by
  subst e
  show (Rect.unit (s := S8192x2048) _ S64x2048.size h).emb (ix2 x y) = _
  funext a
  apply Fin.ext
  rw [Rect.emb_apply]
  fin_cases a <;> simp [ix2, Rect.unit]

/-! ## What the copies leave -/

set_option backward.isDefEq.respectTransparency.types false

/-- An index of a 64-row block by its coordinates. -/
theorem ix2_eta (i : S64x2048.Idx) : ∃ (x : Fin 64) (y : Fin 2048), i = ix2 x y :=
  ⟨i 0, i 1, by funext a; fin_cases a <;> rfl⟩

/-- What a write through a view of 64 rows leaves on the view's elements, index by index. -/
theorem write_eq_on {sp : Space} {v : View sig .tc sp S64x2048 .f32} {e : v.ty.elt = .f32} (fd : v.ty.Contents (Elt F)) (w : Vec F S64x2048 .f32)
    (g : v.ty.Contents (Elt F))
    (hg : ∀ (x : Fin 64) (y : Fin 2048), w (ix2 x y) = _root_.cast (congrArg (Elt F) v.elt_eq) (g (v.emb (ix2 x y)))) :
    ∀ i ∈ v.set, v.write (Elt F) fd w Finset.univ i = g i := by
  intro i hi
  obtain ⟨x, -, rfl⟩ := Finset.mem_map.mp hi
  rw [View.write_emb_of_mem _ _ (Finset.mem_univ x)]
  obtain ⟨a, b, rfl⟩ := ix2_eta x
  rw [hg a b]
  simp

/-- The exchange of step `j` from device `c` leaves the peer's slot `j` as its final contents say. -/
theorem landX (c : Dev nD) (j : Fin 64) (o) (h) (e : o = ![0, 4096 * yc c + 64 * j.val, 0]) (o') (h') (e' : o' = ![j.val, 0, 0])
    (fd : (slotOf (Memref.whole cc0_scratch0) o' h').view.ty.Contents (Elt F)) :
    ∀ i ∈ slotSet j.val, (slotOf (Memref.whole cc0_scratch0) o' h').view.write (Elt F) fd
        ((srcOf (Memref.whole main_arg0) o h).view.read (Elt F) (argP m c)) Finset.univ i = landV m (xp c) i := by
  have hy := yc_lt c
  have hj := j.isLt
  have eb : o = ![0, 64 * blk (yc c) j.val, 0] := by rw [e]; unfold blk; congr 2; omega
  rw [← slotOf_set j.val o' h' e']
  refine write_eq_on (e := rfl) fd _ (landV m (xp c)) fun x y => ?_
  have hx := x.isLt
  rw [slotOf_emb j o' h' e' x y, View.read_apply, srcOf_emb (blk (yc c) j.val) o h eb x y (by unfold blk; omega)]
  show argP m c _ = landV m (xp c) (ix3 j x y)
  unfold landV partB
  rw [xp_xp, yc_xp]
  refine congrArg (argP m c) ?_
  funext a
  apply Fin.ext
  unfold blk
  fin_cases a <;> simp [ix3, ix2]
  omega

/-- A block written to the result of device `d`, from a slot holding device `c`'s rows of it, leaves the result's final contents there. -/
theorem landR (c d : Dev nD) (hd : owner d (yc c) = c) (j : Fin 64) (s : Fin 2) (o) (h) (e : o = ![s.val, 0, 0]) (o') (h') (e' : o' = ![4096 * yc c + 64 * j.val, 0])
    (fd : (resOf (Memref.whole main_v7) o' h').view.ty.Contents (Elt F)) :
    ∀ i ∈ resSet (blk (yc c) j.val), (resOf (Memref.whole main_v7) o' h').view.write (Elt F) fd
        ((outOf (Memref.whole cc0_scratch1) o h).view.read (Elt F) (outV m c (blk (yc c) j.val))) Finset.univ i = resV m d i := by
  have hy := yc_lt c
  have hj := j.isLt
  have eb : o' = ![64 * blk (yc c) j.val, 0] := by rw [e']; unfold blk; congr 1; omega
  rw [← resOf_set (blk (yc c) j.val) o' h' eb]
  refine write_eq_on (e := rfl) fd _ (resV m d) fun x y => ?_
  have hx := x.isLt
  rw [resOf_emb (blk (yc c) j.val) o' h' eb x y (by unfold blk; omega), View.read_apply, outOf_emb s o h e x y]
  show outV m c _ (ix3 s x y) = resV m d (ix2 _ y)
  unfold outV resV
  have h1 : (64 * blk (yc c) j.val + x.val) / 4096 = yc c := by unfold blk; omega
  have h2 : (64 * blk (yc c) j.val + x.val) / 64 = blk (yc c) j.val := by omega
  have h3 : (⟨(64 * blk (yc c) j.val + x.val) % 64, Nat.mod_lt _ (by decide)⟩ : Fin 64) = x := Fin.ext (by show _ % 64 = _; omega)
  show _ = outRows m (owner d ((64 * blk (yc c) j.val + x.val) / 4096)) ((64 * blk (yc c) j.val + x.val) / 64)
    (ix3 (0 : Fin 1) (⟨(64 * blk (yc c) j.val + x.val) % 64, Nat.mod_lt _ (by decide)⟩ : Fin 64) y)
  rw [h1, h2, h3, hd]

end Cert.KernelIdeal.Hand

end
-- ==== Proof.Proto.lean ====
/- The protocol: what each semaphore of a device counts, who credits it, and what each credit
   hands over. -/
module

public import proofs.«01_k».proof.Proof.Geom
public import Idealize.ShloMosaic.Lib.Rounds
public import Idealize.ShloMosaic.Lib.Pipeline.Regions
public import Idealize.ShloMosaic.Lib.Ring
public import proofs.«01_k».proof.Proof.Gen.KernelIdeal.Launch

@[expose] public section

noncomputable section

namespace Cert.KernelIdeal.Hand

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

/-! ## The semaphores of a device -/

/-- The four arrays of 64 semaphores: departures and arrivals of the exchanges, departures and
    arrivals of the finished blocks. -/
inductive Arr
  | sx | rx | sy | ry
  deriving DecidableEq

instance : Fintype Arr := ⟨{.sx, .rx, .sy, .ry}, fun a => by cases a <;> decide⟩

/-- A semaphore of the protocol: the barrier, an entry of one of the four arrays, or the one that
    counts a slot's writes to the device's own result. -/
inductive CK
  | bar
  | ar (a : Arr) (j : Fin 64)
  | lc (s : Fin 2)
  deriving DecidableEq

/-- Where an array's first semaphore is numbered. -/
def Arr.base : Arr → Nat
  | .sx => 5
  | .rx => 69
  | .sy => 133
  | .ry => 197

theorem Arr.base_le (a : Arr) (j : Fin 64) : a.base + j.val < 263 := by
  have := j.isLt; cases a <;> simp [Arr.base] <;> omega

/-- Entry `j` of an array. -/
def arS (a : Arr) (j : Fin 64) : DmaSem sig := ⟨a.base + j.val, a.base_le j⟩
/-- The semaphore of slot `s`'s writes to the device's own result. -/
def lcS (s : Fin 2) : DmaSem sig := ⟨261 + s.val, show 261 + s.val < 263 by omega⟩

/-- A protocol semaphore as the machine names it. -/
def semK : CK → SemLoc sig
  | .bar => .reg barS
  | .ar a j => .dma (arS a j)
  | .lc s => .dma (lcS s)

/-- The protocol's name for the semaphore numbered `n`. -/
def kindN (n : Nat) : Option CK :=
  if h : 5 ≤ n ∧ n < 69 then some (.ar .sx ⟨n - 5, by omega⟩)
  else if h : 69 ≤ n ∧ n < 133 then some (.ar .rx ⟨n - 69, by omega⟩)
  else if h : 133 ≤ n ∧ n < 197 then some (.ar .sy ⟨n - 133, by omega⟩)
  else if h : 197 ≤ n ∧ n < 261 then some (.ar .ry ⟨n - 197, by omega⟩)
  else if h : 261 ≤ n ∧ n < 263 then some (.lc ⟨n - 261, by omega⟩)
  else none

/-- The protocol's name for a semaphore. -/
def kindOf : SemLoc sig → Option CK
  | .reg b => if b = barS then some .bar else none
  | .dma n => kindN n.val

theorem kindN_ar (a : Arr) (j : Fin 64) : kindN (a.base + j.val) = some (.ar a j) := by
  have := j.isLt
  cases a
  · show kindN (5 + j.val) = _
    unfold kindN
    rw [dif_pos (by omega)]; congr; omega
  · show kindN (69 + j.val) = _
    unfold kindN
    rw [dif_neg (by omega), dif_pos (by omega)]; congr; omega
  · show kindN (133 + j.val) = _
    unfold kindN
    rw [dif_neg (by omega), dif_neg (by omega), dif_pos (by omega)]; congr; omega
  · show kindN (197 + j.val) = _
    unfold kindN
    rw [dif_neg (by omega), dif_neg (by omega), dif_neg (by omega), dif_pos (by omega)]; congr; omega

theorem kindN_lc (s : Fin 2) : kindN (261 + s.val) = some (.lc s) := by
  have := s.isLt
  unfold kindN
  rw [dif_neg (by omega), dif_neg (by omega), dif_neg (by omega), dif_neg (by omega), dif_pos (by omega)]
  congr; omega

theorem kindOf_semK (k : CK) : kindOf (semK k) = some k := by
  cases k with
  | bar => show (if barS = barS then some CK.bar else none) = _; rw [if_pos rfl]
  | ar a j => exact kindN_ar a j
  | lc s => exact kindN_lc s

theorem semK_inj : Function.Injective semK := fun a b h =>
  Option.some.inj (by rw [← kindOf_semK a, ← kindOf_semK b, h])

/-- Device `c`'s cell of the protocol's semaphore `k`. -/
abbrev cell (c : Dev nD) (k : CK) : GSem nD τ sig := ((c : Thread nD τ), semK k)

theorem cell_inj {c d : Dev nD} {k l : CK} (h : cell c k = cell d l) : c = d ∧ k = l := by
  have h1 : ((c : Thread nD τ)).1 = ((d : Thread nD τ)).1 := congrArg (fun g : GSem nD τ sig => g.1.1) h
  exact ⟨h1, semK_inj (congrArg (fun g : GSem nD τ sig => g.2) h)⟩

theorem sx_sem (o : Fin 1 → Nat) (h) (j : Fin 64) (e : o = ![j.val]) : semOf cc0_scratch2 o h = arS .sx j := by
  subst e; revert j; decide
theorem rx_sem (o : Fin 1 → Nat) (h) (j : Fin 64) (e : o = ![j.val]) : semOf cc0_scratch3 o h = arS .rx j := by
  subst e; revert j; decide
theorem sy_sem (o : Fin 1 → Nat) (h) (j : Fin 64) (e : o = ![j.val]) : semOf cc0_scratch4 o h = arS .sy j := by
  subst e; revert j; decide
theorem ry_sem (o : Fin 1 → Nat) (h) (j : Fin 64) (e : o = ![j.val]) : semOf cc0_scratch5 o h = arS .ry j := by
  subst e; revert j; decide
theorem lc_sem (o : Fin 1 → Nat) (h) (s : Fin 2) (e : o = ![s.val]) : semOf2 cc0_scratch6 o h = lcS s := by
  subst e; revert s; decide

/-! ## The resources -/

/-- The ghost state: the pipeline's rounds and the protocol's, whose duties are told apart by a
    truth value (on the barrier: whether the first-axis peer pays; elsewhere always true). -/
abbrev UU : Type := UR sig nD τ × URounds (GSem nD τ sig) Bool

local notation "𝕄" => MT nD τ sig Unit (Elt F) ℕ UU ℕ

abbrev EP : Emb (UR sig nD τ) (MT nD τ sig Unit (Elt F) ℕ UU ℕ) := embL
abbrev ER : Emb (URounds (GSem nD τ sig) Bool) (MT nD τ sig Unit (Elt F) ℕ UU ℕ) := embR

variable (m : (ℓ : Loc nD τ sig) → Buf (Elt F) ℓ)

/-- What a copy of one block credits. -/
def N : ℕ := (slotOf (Memref.whole cc0_scratch0) ![(0 : Fin 64).val, 0, 0] (inb64x 0)).view.dmaCredit
theorem N_pos : 0 < N := View.dmaCredit_pos _ (by decide)

/-- A share of block `b` of device `c`'s partial sums. -/
abbrev srcPt (c : Dev nD) (b : Nat) : sProp 𝕄 :=
  (c : Thread nD τ).loc main_arg0 ↦[srcSet b]{fullShare.right} argP m c
/-- Slot `j` of device `c`'s buffer of arrivals, at `f`. -/
abbrev slotPt (c : Dev nD) (j : Nat) (f : Buf (Elt F) ((c : Thread nD τ).loc cc0_scratch0)) : sProp 𝕄 :=
  (c : Thread nD τ).loc cc0_scratch0 ↦[slotSet j]{fullShare} f
/-- A share of slot `s` of device `c`'s buffer of departures, at `f`. -/
abbrev outPt (c : Dev nD) (s : Nat) (q : PosShare TreeShare) (f : Buf (Elt F) ((c : Thread nD τ).loc cc0_scratch1)) : sProp 𝕄 :=
  (c : Thread nD τ).loc cc0_scratch1 ↦[outSet s]{q} f
/-- Block `b` of device `c`'s result, at `f`. -/
abbrev resPt (c : Dev nD) (b : Nat) (f : Buf (Elt F) ((c : Thread nD τ).loc main_v7)) : sProp 𝕄 :=
  (c : Thread nD τ).loc main_v7 ↦[resSet b]{fullShare} f
/-- The three of these that start out at contents of no interest. -/
abbrev slotAny (c : Dev nD) (j : Nat) : sProp 𝕄 := iprop(∃ f, slotPt c j f)
abbrev outAny (c : Dev nD) (s : Nat) : sProp 𝕄 := iprop(∃ f, outPt c s fullShare f)
abbrev resAny (c : Dev nD) (b : Nat) : sProp 𝕄 := iprop(∃ f, resPt c b f)

/-! ## The schedule -/

/-- What a barrier unit from the first-axis peer `d` hands over: `d`'s slots for the exchanges. -/
def barPayX (d : Dev nD) : sProp 𝕄 :=
  bigSep Finset.univ fun j : Fin 64 => iprop(slotAny d j.val ∗ reached ER (cell d (.ar .rx j)) 0)
/-- What a barrier unit from the second-axis peer `d` hands over: the rows of `d`'s result that `d`
    does not compute. -/
def barPayY (d : Dev nD) : sProp 𝕄 :=
  bigSep Finset.univ fun j : Fin 64 => iprop(resAny d (blk (1 - yc d) j.val) ∗ reached ER (cell d (.ar .ry j)) 0)

/-- The duties of a semaphore's round: a barrier has two, for its two peers; an entry of an array one;
    a slot's counter one in each of 32 rounds. -/
def dutiesK : CK → ℕ → Finset Bool
  | .bar, r => if r = 0 then Finset.univ else ∅
  | .ar _ _, r => if r = 0 then {true} else ∅
  | .lc _, r => if r < 32 then {true} else ∅
/-- What a duty credits: a barrier's duty one unit, the others a block's. -/
def amountK : CK → ℕ
  | .bar => 1
  | _ => N
/-- What a duty hands to device `c`, the semaphore's owner. -/
def payK (c : Dev nD) : CK → ℕ → Bool → sProp 𝕄
  | .bar, _, d => if d then barPayX (xp c) else barPayY (yp c)
  | .ar .sx j, _, _ => srcPt m c (blk (yc c) j.val)
  | .ar .rx j, _, _ => slotPt c j.val (landV m c)
  | .ar .sy j, _, _ => outPt c (j.val % 2) fullShare.right (outV m c (blk (yc c) j.val))
  | .ar .ry j, _, _ => resPt c (blk (1 - yc c) j.val) (resV m c)
  | .lc s, r, _ => iprop(resPt c (blk (yc c) (2 * r + s.val)) (resV m c)
      ∗ outPt c s.val fullShare.left (outV m c (blk (yc c) (2 * r + s.val))))

theorem amountK_pos (k : CK) : 0 < amountK k := by
  cases k
  · exact Nat.one_pos
  · exact N_pos
  · exact N_pos

/-- The schedule: every TensorCore's cells, by their names. -/
def Rd : Rounds.Schedule (GSem nD τ sig) Bool 𝕄 where
  duties g r := if g.1.2 = .tc then (match kindOf g.2 with | some k => dutiesK k r | none => ∅) else ∅
  unitless _ := False
  amount g _ _ := match kindOf g.2 with | some k => amountK k | none => 1
  payload g r d := match kindOf g.2 with | some k => payK m g.1.1 k r d | none => iprop(emp)
  amount_pos g _ _ _ := by
    cases kindOf g.2 with
    | none => exact Nat.one_pos
    | some k => exact amountK_pos k

instance payK_storable (c : Dev nD) (k : CK) (r : ℕ) (d : Bool) :
    BI.Storable (upEmb : UEmb _ 𝕄) (payK m c k r d) := by
  cases k with
  | bar =>
    show BI.Storable upEmb (if d then barPayX (xp c) else barPayY (yp c))
    unfold barPayX barPayY
    split <;> infer_instance
  | ar a j => cases a <;> (show BI.Storable upEmb (_ ↦[_]{_} _); infer_instance)
  | lc s => unfold payK; infer_instance

instance Rd_payload_storable (g : GSem nD τ sig) (r : ℕ) (d : Bool) :
    BI.Storable (upEmb : UEmb _ 𝕄) ((Rd (F := F) m).payload g r d) := by
  show BI.Storable upEmb (match kindOf g.2 with | some k => payK m g.1.1 k r d | none => iprop(emp))
  split <;> infer_instance

variable (c : Dev nD) (k : CK)

theorem duties_cell (r : ℕ) : (Rd (F := F) m).duties (cell c k) r = dutiesK k r := by
  show (if (Proc.tc : Proc τ) = .tc then (match kindOf (semK k) with | some k => dutiesK k r | none => ∅) else ∅) = _
  rw [if_pos rfl, kindOf_semK]
theorem amount_cell (r : ℕ) (d : Bool) : (Rd (F := F) m).amount (cell c k) r d = amountK k := by
  show (match kindOf (semK k) with | some k => amountK k | none => 1) = _
  rw [kindOf_semK]
theorem payload_cell (r : ℕ) (d : Bool) : (Rd (F := F) m).payload (cell c k) r d = payK m c k r d := by
  show (match kindOf (semK k) with | some k => payK m c k r d | none => iprop(emp)) = _
  rw [kindOf_semK]
theorem expect_cell (r : ℕ) : (Rd (F := F) m).expect (cell c k) r = (dutiesK k r).card * amountK k := by
  unfold Schedule.expect Schedule.amountOf
  rw [duties_cell, Finset.sum_congr rfl (fun d _ => amount_cell m c k r d), Finset.sum_const, smul_eq_mul]

/-- What a wait for a whole round of one duty hands over. -/
theorem rest_one (r : ℕ) (h : dutiesK k r = {true}) :
    bigSep ((Rd (F := F) m).duties (cell c k) r \ ∅) (fun d => (Rd (F := F) m).payload (cell c k) r d) = payK m c k r true := by
  rw [Finset.sdiff_empty, duties_cell, h, bigSep_singleton, payload_cell]
/-- What the wait at the barrier hands over. -/
theorem rest_bar :
    bigSep ((Rd (F := F) m).duties (cell c .bar) 0 \ ∅) (fun d => (Rd (F := F) m).payload (cell c .bar) 0 d)
      = iprop(barPayX (xp c) ∗ barPayY (yp c)) := by
  rw [Finset.sdiff_empty, duties_cell]
  show bigSep (Finset.univ : Finset Bool) _ = _
  rw [show (Finset.univ : Finset Bool) = {true, false} from rfl, bigSep_insert (by decide), bigSep_singleton,
    payload_cell, payload_cell]
  rfl

/-- The rounds a cell has: past them, no duty. -/
def lastK : CK → ℕ
  | .lc _ => 32
  | _ => 1
theorem duties_past (r : ℕ) (h : lastK k ≤ r) : (Rd (F := F) m).duties (cell c k) r = ∅ := by
  rw [duties_cell]
  cases k <;> simp only [lastK] at h
  · exact if_neg (by omega)
  · exact if_neg (by omega)
  · exact if_neg (by omega)

/-! ## What each device owes, and the levels -/

/-- The arrivals of the exchanges from `j = k` on, at the first-axis peer. -/
def owesX (k : Nat) : CellTallies nD τ sig Unit :=
  ∑ j ∈ Finset.univ.filter (fun j : Fin 64 => k ≤ j.val), tallyAt (cell (xp c) (.ar .rx j)) () N
/-- The arrivals of the finished blocks from `j = k` on, at the second-axis peer. -/
def owesY (k : Nat) : CellTallies nD τ sig Unit :=
  ∑ j ∈ Finset.univ.filter (fun j : Fin 64 => k ≤ j.val), tallyAt (cell (yp c) (.ar .ry j)) () N

theorem filter_step (j : Fin 64) :
    (Finset.univ.filter fun i : Fin 64 => j.val ≤ i.val) = insert j (Finset.univ.filter fun i : Fin 64 => j.val + 1 ≤ i.val) := by
  ext i
  simp only [Finset.mem_filter, Finset.mem_univ, true_and, Finset.mem_insert, Fin.ext_iff]
  omega
theorem filter_last (k : Nat) (h : 64 ≤ k) : (Finset.univ.filter fun i : Fin 64 => k ≤ i.val) = ∅ := by
  ext i
  have := i.isLt
  simp only [Finset.mem_filter, Finset.mem_univ, true_and, Finset.notMem_empty, iff_false]
  omega
theorem filter_all : (Finset.univ.filter fun i : Fin 64 => 0 ≤ i.val) = Finset.univ := by
  ext i; simp

theorem owesX_step (j : Fin 64) : owesX c j.val = owesX c (j.val + 1) + tallyAt (cell (xp c) (.ar .rx j)) () N := by
  unfold owesX
  rw [filter_step, Finset.sum_insert (by simp), add_comm]
theorem owesY_step (j : Fin 64) : owesY c j.val = owesY c (j.val + 1) + tallyAt (cell (yp c) (.ar .ry j)) () N := by
  unfold owesY
  rw [filter_step, Finset.sum_insert (by simp), add_comm]
theorem owesX_last : owesX c 64 = 0 := by unfold owesX; rw [filter_last _ le_rfl, Finset.sum_empty]
theorem owesY_last : owesY c 64 = 0 := by unfold owesY; rw [filter_last _ le_rfl, Finset.sum_empty]

/-- What a device owes at the start. -/
def owes0 : CellTallies nD τ sig Unit :=
  ((owesY c 0 + owesX c 0) + tallyAt (cell (yp c) .bar) () 1) + tallyAt (cell (xp c) .bar) () 1
/-- What it owes when step `t` starts. -/
def owed (t : Nat) : CellTallies nD τ sig Unit := if t = 0 then owes0 c else owesY c t

def L (g : GSem nD τ sig) : Finset Unit := if g.1.2 = .tc then {()} else ∅
/-- The order of waits: the barrier before the exchanges' arrivals, those before the blocks'. -/
def lvK : Option CK → ℕ
  | some .bar => 1
  | some (.ar .rx _) => 2
  | some (.ar .ry _) => 3
  | _ => 0
def lv (g : GSem nD τ sig) (_ : Unit) : ℕ := lvK (kindOf g.2)

theorem L_of_ne (g : GSem nD τ sig) (h : g.1.2 ≠ .tc) : L g = ∅ := if_neg h
theorem L_tc (sm : SemLoc sig) : L ((c : Thread nD τ), sm) = {()} := if_pos rfl
theorem lv_cell (u : Unit) : lv (cell c k) u = lvK (some k) := by unfold lv; rw [kindOf_semK]

theorem tally_pos {g g' : GSem nD τ sig} {u u' : Unit} {n : Nat} (h : 0 < (tallyAt g u n : CellTallies nD τ sig Unit) g' u') : g' = g := by
  rw [tallyAt_apply] at h
  by_contra hne
  rw [if_neg (fun e => hne e.1)] at h
  exact absurd h (Nat.lt_irrefl 0)

theorem owesX_pos {k : Nat} {g : GSem nD τ sig} {u : Unit} (h : 0 < owesX c k g u) : ∃ j, g = cell (xp c) (.ar .rx j) := by
  unfold owesX at h
  rw [Finset.sum_apply, Finsupp.finset_sum_apply] at h
  obtain ⟨j, -, hj⟩ := Finset.exists_ne_zero_of_sum_ne_zero h.ne'
  exact ⟨j, tally_pos (Nat.pos_of_ne_zero hj)⟩
theorem owesY_pos {k : Nat} {g : GSem nD τ sig} {u : Unit} (h : 0 < owesY c k g u) : ∃ j, g = cell (yp c) (.ar .ry j) := by
  unfold owesY at h
  rw [Finset.sum_apply, Finsupp.finset_sum_apply] at h
  obtain ⟨j, -, hj⟩ := Finset.exists_ne_zero_of_sum_ne_zero h.ne'
  exact ⟨j, tally_pos (Nat.pos_of_ne_zero hj)⟩

/-- A wait below every arrival of finished blocks may happen while only those are owed. -/
theorem mayWait_Y (k' : Nat) (hk : lvK (some k) ≤ 2) :
    (levAts L lv : sProp 𝕄) ⊢ MayWait (c : Thread nD τ) (semK k) () (owesY c k') :=
  MayOwe.of_cut (L := L) (lev := lv) 2 (fun p hp => by rw [Finset.mem_singleton.mp hp, L_tc]; exact Finset.mem_singleton_self _)
    (fun g u hg => by obtain ⟨j, rfl⟩ := owesY_pos c hg; rw [L_tc]; exact Finset.mem_singleton_self _)
    (fun p hp => by rw [Finset.mem_singleton.mp hp]; exact (lv_cell c k ()).trans_le hk)
    (fun g u hg => by obtain ⟨j, rfl⟩ := owesY_pos c hg; rw [lv_cell]; exact (by decide : (2 : ℕ) < 3))

/-- The wait at the barrier may happen while the arrivals are owed. -/
theorem mayWait_bar :
    (levAts L lv : sProp 𝕄) ⊢ MayWait (c : Thread nD τ) (semK .bar) () (owesY c 0 + owesX c 0) :=
  MayOwe.of_cut (L := L) (lev := lv) 1 (fun p hp => by rw [Finset.mem_singleton.mp hp, L_tc]; exact Finset.mem_singleton_self _)
    (fun g u hg => by
      have hg' : 0 < owesY c 0 g u + owesX c 0 g u := hg
      rcases Nat.eq_zero_or_pos (owesY c 0 g u) with h | h
      · rw [h, Nat.zero_add] at hg'
        obtain ⟨j, rfl⟩ := owesX_pos c hg'; rw [L_tc]; exact Finset.mem_singleton_self _
      · obtain ⟨j, rfl⟩ := owesY_pos c h; rw [L_tc]; exact Finset.mem_singleton_self _)
    (fun p hp => by rw [Finset.mem_singleton.mp hp]; exact (lv_cell c .bar ()).le)
    (fun g u hg => by
      have hg' : 0 < owesY c 0 g u + owesX c 0 g u := hg
      rcases Nat.eq_zero_or_pos (owesY c 0 g u) with h | h
      · rw [h, Nat.zero_add] at hg'
        obtain ⟨j, rfl⟩ := owesX_pos c hg'; rw [lv_cell]; exact (by decide : (1 : ℕ) < 2)
      · obtain ⟨j, rfl⟩ := owesY_pos c h; rw [lv_cell]; exact (by decide : (1 : ℕ) < 3))

end Cert.KernelIdeal.Hand

end
-- ==== Proof.Steps.lean ====
/- The kernel's transfers and waits one at a time: what each takes and what it gives back. -/
module

public import proofs.«01_k».proof.Proof.Proto
public import Idealize.ShloMosaic.Lib.Tactic

@[expose] public section

noncomputable section

namespace Cert.KernelIdeal.Hand

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a part of the kernel on device `c`. -/
abbrev WP {α : Type} (c : Dev nD) (p : KProg F α) (Q : α → sProp 𝕄) : sProp 𝕄 :=
  wp frame (wpE (defs₀ (F := F)) 𝒱₀ (c : Thread nD τ) none) Set.univ p Q

/-! ## What is shared -/

/-- A device's semaphores of the protocol other than the barrier's, by name. -/
abbrev DK : Type := (Arr × Fin 64) ⊕ Fin 2
def kD : DK → CK
  | .inl (a, j) => .ar a j
  | .inr s => .lc s
theorem kD_inj : Function.Injective kD := by
  rintro (⟨a, j⟩ | s) (⟨a', j'⟩ | s') h <;> simp_all [kD]

def barEmb : Dev nD ↪ GSem nD τ sig := ⟨fun c => cell c .bar, fun c d h => (cell_inj h).1⟩
def dmaEmb : Dev nD × DK ↪ GSem nD τ sig :=
  ⟨fun p => cell p.1 (kD p.2), fun p q h => Prod.ext (cell_inj h).1 (kD_inj (cell_inj h).2)⟩
/-- The barriers' cells, and all the others. -/
def barCells : Finset (GSem nD τ sig) := Finset.univ.map barEmb
def dmaCells : Finset (GSem nD τ sig) := Finset.univ.map dmaEmb

theorem cell_mem (c : Dev nD) (k : CK) : cell c k ∈ barCells ∪ dmaCells := by
  rw [Finset.mem_union]
  cases k with
  | bar => exact .inl (Finset.mem_map.mpr ⟨c, Finset.mem_univ _, rfl⟩)
  | ar a j => exact .inr (Finset.mem_map.mpr ⟨(c, .inl (a, j)), Finset.mem_univ _, rfl⟩)
  | lc s => exact .inr (Finset.mem_map.mpr ⟨(c, .inr s), Finset.mem_univ _, rfl⟩)

/-- Every cell's invariant, at the names `K`. -/
def invs (K : GSem nD τ sig → ℕ) : sProp 𝕄 := bigSep (barCells ∪ dmaCells) fun g => cellInv ER (Rd m) (K g) g

instance invs_persistent (K : GSem nD τ sig → ℕ) : BI.Persistent (invs m K) := by unfold invs; infer_instance

theorem inv_at (K : GSem nD τ sig → ℕ) (c : Dev nD) (k : CK) :
    invs m K ⊢ cellInv ER (Rd m) (K (cell c k)) (cell c k) := bigSep_elim (cell_mem c k)

/-- What a device owes, the waits it has recorded left out. -/
def owe (c : Dev nD) (O : CellTallies nD τ sig Unit) : sProp 𝕄 := iprop(∃ W, owes (c : Thread nD τ) O W)

/-! ## Waits -/

/-- A wait for a whole round of one duty, on a device's own cell `k`. -/
theorem wp_waitK (K : GSem nD τ sig → ℕ) (c : Dev nD) (k : CK) (r : ℕ) (n : ℕ) (h : dutiesK k r = {true}) (hn : amountK k = n)
    (w : TpuEff nD τ sig (Elt F) Λ₀ .tc PUnit)
    (hw : ∀ Kt : PUnit → sProp 𝕄, wpE' (defs₀ (F := F)) 𝒱₀ (c : Thread nD τ) none [] Set.univ w Kt
      = waitSpec (c : Thread nD τ) Set.univ (semK k) n Kt)
    (O : CellTallies nD τ sig Unit) (hO : (levAts L lv : sProp 𝕄) ⊢ MayWait (c : Thread nD τ) (semK k) () O)
    (Q : PUnit → sProp 𝕄) :
    iprop(invs m K ∗ levAts L lv ∗ atPos ER (cell c k) r ∅ 0 ∗ cred (tallyAt (cell c k) () n) ∗ owe c O)
      ⊢ iprop(((owe c O ∗ atPos ER (cell c k) (r + 1) ∅ 0 ∗ reached ER (cell c k) (r + 1) ∗ payK m c k r true) -∗ Q ⟨⟩)
        -∗ WP c (Prog.lift w) Q) := by
  unfold owe
  iintro ⟨#HI, #Hl, Hat, Hc, ⟨%W, HO⟩⟩ Hk
  iapply (Rounds.wp_wait_rest_token 𝒱₀ ER (Rd m) (c : Thread nD τ) none (κ := K (cell c k)) hw (Set.mem_univ _) () (O := O) (W := W)
    (R := r) (m := 0) (T := ∅) (by rw [expect_cell, h, hn, Finset.card_singleton, Nat.one_mul, Nat.zero_add])) $$ [Hat Hc HO]
  · isplitr; · iapply (inv_at m K c k); iexact HI
    isplitl [Hc]; · iexact Hc
    isplitl [HO]; · iexact HO
    isplitr; · iapply hO; iexact Hl
    iexact Hat
  iintro ⟨HO, Hat, #Hr, Hp⟩
  rw [wp_ret]
  imodintro
  iapply Hk
  isplitl [HO]; · iexists _; iexact HO
  isplitl [Hat]; · iexact Hat
  isplitr; · iexact Hr
  iapply (Entails.of_eq (rest_one m c k r h)) $$ Hp

/-! ## Loops over the 64 slots -/

/-- A family over a set with one member named apart. -/
theorem bs_insert {I : Type} [DecidableEq I] {s : Finset I} {i : I} (hi : i ∉ s) {Φ : I → sProp 𝕄} :
    bigSep (insert i s) Φ = iprop(Φ i ∗ bigSep s Φ) := BI.bigSep_insert hi

theorem wp_loop_from (c : Dev nD) (f : Fin 64 → KProg F PUnit) (P : sProp 𝕄) [BI.Persistent P] (pre post : Fin 64 → sProp 𝕄) (Acc : Nat → sProp 𝕄)
    (hstep : ∀ (j : Fin 64) (Q : PUnit → sProp 𝕄),
      iprop(P ∗ pre j ∗ Acc j.val) ⊢ iprop(((post j ∗ Acc (j.val + 1)) -∗ Q ⟨⟩) -∗ WP c (f j) Q)) :
    ∀ (n k : Nat) (h : n + k = 64) (Q : PUnit → sProp 𝕄),
      iprop(P ∗ bigSep (Finset.univ.filter fun j : Fin 64 => k ≤ j.val) pre ∗ Acc k)
        ⊢ iprop(((bigSep (Finset.univ.filter fun j : Fin 64 => k ≤ j.val) post ∗ Acc 64) -∗ Q ⟨⟩) -∗ WP c (loopFrom f n k h) Q)
  | 0, k, h, Q => by
    obtain rfl : k = 64 := by omega
    rw [filter_last 64 le_rfl, bigSep_empty, bigSep_empty]
    show _ ⊢ iprop(_ -∗ WP c (pure ⟨⟩) Q)
    unfold WP
    rw [wp_pure]
    iintro ⟨-, -, HA⟩ Hk
    imodintro
    iapply Hk
    isplitr; · iempintro
    iexact HA
  | n + 1, k, h, Q => by
    have hk : k < 64 := by omega
    show _ ⊢ iprop(_ -∗ WP c (f ⟨k, hk⟩ >>= fun _ => loopFrom f n (k + 1) (by omega)) Q)
    unfold WP at hstep ⊢
    rw [wp_bind]
    have hf := filter_step ⟨k, hk⟩
    have hn : (⟨k, hk⟩ : Fin 64) ∉ (Finset.univ.filter fun i : Fin 64 => k + 1 ≤ i.val) := by simp
    have h' : n + (k + 1) = 64 := by omega
    dsimp only at hf
    rw [hf, bs_insert hn, bs_insert hn]
    iintro ⟨#HP, ⟨Hj, Hrest⟩, HA⟩ Hk
    iapply (hstep ⟨k, hk⟩ _) $$ [Hj HA]
    · isplitr; · iexact HP
      isplitl [Hj]; · iexact Hj
      iexact HA
    iintro ⟨Hj, HA⟩
    iapply (wp_loop_from c f P pre post Acc hstep n (k + 1) h' Q) $$ [Hrest HA]
    · isplitr; · iexact HP
      isplitl [Hrest]; · iexact Hrest
      iexact HA
    iintro ⟨Hrest, HA⟩
    iapply Hk
    isplitl [Hj Hrest]
    · isplitl [Hj]; · iexact Hj
      iexact Hrest
    iexact HA

/-- A loop over the slots, from what one turn takes and gives back. -/
theorem wp_loop (c : Dev nD) (f : Fin 64 → KProg F PUnit) (P : sProp 𝕄) [BI.Persistent P] (pre post : Fin 64 → sProp 𝕄) (Acc : Nat → sProp 𝕄)
    (hstep : ∀ (j : Fin 64) (Q : PUnit → sProp 𝕄),
      iprop(P ∗ pre j ∗ Acc j.val) ⊢ iprop(((post j ∗ Acc (j.val + 1)) -∗ Q ⟨⟩) -∗ WP c (f j) Q)) (Q : PUnit → sProp 𝕄) :
    iprop(P ∗ bigSep Finset.univ pre ∗ Acc 0)
      ⊢ iprop(((bigSep Finset.univ post ∗ Acc 64) -∗ Q ⟨⟩) -∗ WP c (loopFrom f 64 0 rfl) Q) := by
  have h := wp_loop_from c f P pre post Acc hstep 64 0 rfl Q
  rw [filter_all] at h
  exact h

/-! ## Copies -/

/-- A copy to another device: it pays a duty of the sender's departure cell and one of the receiver's arrival cell. -/
theorem wp_sendK (K : GSem nD τ sig → ℕ) (c d : Dev nD) (k₁ k₂ : CK) {sp sp' : Space} (src : Memref sig .tc sp S64x2048 .f32)
    (dst : Memref sig .tc sp' S64x2048 .f32) (d' : Dev nD) (hd : d' = d) (s₁ s₂ : DmaSem sig) (e₁ : semK k₁ = .dma s₁) (e₂ : semK k₂ = .dma s₂)
    (hsrc : src.view.WordExact) (hdst : dst.view.WordExact)
    (hsem : DmaTarget.Typed (nD := nD) sp (.dma s₂) (.remote (Dev.tc d') dst (.dma s₁)))
    (h₁ : dutiesK k₁ 0 = {true}) (h₂ : dutiesK k₂ 0 = {true}) (a₁ : amountK k₁ = N) (a₂ : amountK k₂ = N) (hN : dst.view.amount (.dma s₂) = N)
    (q : PosShare TreeShare) (fs : Buf (Elt F) (src.view.loc (c : Thread nD τ))) (fd : Buf (Elt F) (dst.view.loc (d : Thread nD τ)))
    (O : CellTallies nD τ sig Unit)
    (hpay₁ : ((src.view.loc (c : Thread nD τ) ↦[src.view.set]{q} fs : sProp 𝕄)) ⊢ payK m c k₁ 0 true)
    (hpay₂ : ((dst.view.loc (d : Thread nD τ) ↦[dst.view.set]{fullShare} (dst.view.write (Elt F) fd (src.view.read (Elt F) fs) Finset.univ) : sProp 𝕄))
      ⊢ payK m d k₂ 0 true) (Q : PUnit → sProp 𝕄) :
    iprop(invs m K ∗ (src.view.loc (c : Thread nD τ) ↦[src.view.set]{q} fs) ∗ (dst.view.loc (d : Thread nD τ) ↦[dst.view.set]{fullShare} fd)
        ∗ owe c (O + tallyAt (cell d k₂) () N)
        ∗ dutyTok ER (cell c k₁) 0 true ∗ reached ER (cell c k₁) 0 ∗ dutyTok ER (cell d k₂) 0 true ∗ reached ER (cell d k₂) 0)
      ⊢ iprop(((cred (tallyAt (cell c k₁) () N) ∗ owe c O) -∗ Q ⟨⟩)
        -∗ WP c (Prog.lift (.enqueueDma src (.remote (Dev.tc d') dst (.dma s₁)) (.dma s₂) hsrc hdst hsem)) Q) := by
  subst hd
  unfold owe
  have hm₁ : true ∈ (Rd (F := F) m).duties ((c : Thread nD τ), .dma s₁) 0 := by
    rw [← e₁, duties_cell, h₁]; exact Finset.mem_singleton_self _
  have hm₂ : true ∈ (Rd (F := F) m).duties ((d' : Thread nD τ), .dma s₂) 0 := by
    rw [← e₂, duties_cell, h₂]; exact Finset.mem_singleton_self _
  have hk₁ : (Rd (F := F) m).amount ((c : Thread nD τ), .dma s₁) 0 true = N := by rw [← e₁, amount_cell, a₁]
  have hk₂ : (Rd (F := F) m).amount ((d' : Thread nD τ), .dma s₂) 0 true = N := by rw [← e₂, amount_cell, a₂]
  have hp₁ : payK m c k₁ 0 true = (Rd (F := F) m).payload ((c : Thread nD τ), .dma s₁) 0 true := by rw [← e₁, payload_cell]
  have hp₂ : payK m d' k₂ 0 true = (Rd (F := F) m).payload ((d' : Thread nD τ), .dma s₂) 0 true := by rw [← e₂, payload_cell]
  rw [hp₁] at hpay₁
  rw [hp₂] at hpay₂
  have g₁ : cell c k₁ = ((c : Thread nD τ), .dma s₁) := by rw [← e₁]
  have g₂ : cell d' k₂ = ((d' : Thread nD τ), .dma s₂) := by rw [← e₂]
  have i₁ := inv_at m K c k₁
  have i₂ := inv_at m K d' k₂
  rw [g₁] at i₁
  rw [g₂] at i₂
  rw [g₁, g₂]
  iintro ⟨#HI, Hs, Hd, ⟨%W, HO⟩, Ht₁, Hr₁, Ht₂, Hr₂⟩ Hk
  iapply (Rounds.wp_send_pointsTo 𝒱₀ ER (Rd m) (c : Thread nD τ) none hm₁ hm₂ () () N hN hk₁ hk₂ O rfl hpay₁ hpay₂
    (κ₁ := K ((c : Thread nD τ), .dma s₁)) (κ₂ := K ((d' : Thread nD τ), .dma s₂)) (W := W)) $$ [Hs Hd HO Ht₁ Hr₁ Ht₂ Hr₂]
  · isplitr; · iapply i₁; iexact HI
    isplitr; · iapply i₂; iexact HI
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iintro ⟨Hc, HO⟩
  rw [wp_ret]
  imodintro
  iapply Hk
  isplitl [Hc]; · iexact Hc
  iexists _; iexact HO

/-- The start of the exchange of step `j`. -/
theorem wp_startX (K : GSem nD τ sig → ℕ) (c : Dev nD) (i : grid0.Coords) (h1 : k0_cond1 i = 1#1) (j : Fin 64) (O : CellTallies nD τ sig Unit) (Q : PUnit → sProp 𝕄) :
    iprop(invs m K ∗ srcPt m c (blk (yc c) j.val) ∗ slotAny (xp c) j.val ∗ owe c (O + tallyAt (cell (xp c) (.ar .rx j)) () N)
        ∗ dutyTok ER (cell c (.ar .sx j)) 0 true ∗ reached ER (cell c (.ar .sx j)) 0
        ∗ dutyTok ER (cell (xp c) (.ar .rx j)) 0 true ∗ reached ER (cell (xp c) (.ar .rx j)) 0)
      ⊢ iprop(((cred (tallyAt (cell c (.ar .sx j)) () N) ∗ owe c O) -∗ Q ⟨⟩)
        -∗ WP c (startX (F := F) i c (Memref.whole main_arg0) (Memref.whole cc0_scratch0) cc0_scratch2 cc0_scratch3 h1 j) Q) := by
  have eo := k0_off1_eq c j
  have hset := srcOf_set (blk (yc c) j.val) _ (k0_off1_inb i c h1 j) (by rw [eo]; unfold blk yc; congr 2; omega)
  have hslot := slotOf_set j.val _ (inb64x j) rfl
  have hland := landX m c j _ (k0_off1_inb i c h1 j) eo _ (inb64x j) rfl
  iintro ⟨#HI, Hs, ⟨%fd, Hd⟩, HO, Ht₁, Hr₁, Ht₂, Hr₂⟩ Hk
  iapply (wp_sendK m K c (xp c) (.ar .sx j) (.ar .rx j)
    (srcOf (Memref.whole main_arg0) (k0_off1 c (BitVec.ofNat 32 (64 * j.val))) (k0_off1_inb i c h1 j))
    (slotOf (Memref.whole cc0_scratch0) ![j.val, 0, 0] (inb64x j)) _ (dev3_eq c _) _ _
    (congrArg SemLoc.dma (sx_sem _ _ j rfl).symm) (congrArg SemLoc.dma (rx_sem _ _ j rfl).symm) _ _ _ rfl rfl rfl rfl rfl fullShare.right (argP m c) fd O
    (Entails.of_eq (by rw [hset]; rfl)) (Entails.of_eq (by
      rw [hslot]; exact pointsTo_congr (hland fd))) Q) $$ [Hs Hd HO Ht₁ Hr₁ Ht₂ Hr₂]
  · rw [hset, hslot]
    isplitr; · iexact HI
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iexact Hk

/-- A copy within a device: it pays a duty of the device's own cell. -/
theorem wp_copyK (K : GSem nD τ sig → ℕ) (c : Dev nD) (k : CK) (r : ℕ) {sp sp' : Space} (src : Memref sig .tc sp S64x2048 .f32)
    (dst : Memref sig .tc sp' S64x2048 .f32) (s : DmaSem sig) (e : semK k = .dma s)
    (hsrc : src.view.WordExact) (hdst : dst.view.WordExact)
    (hsem : DmaTarget.Typed (nD := nD) sp (.dma s) (.here (p := (Proc.tc : Proc τ)) dst))
    (h : dutiesK k r = {true}) (a : amountK k = N) (hN : dst.view.amount (.dma s) = N)
    (q : PosShare TreeShare) (fs : Buf (Elt F) (src.view.loc (c : Thread nD τ))) (fd : Buf (Elt F) (dst.view.loc (c : Thread nD τ)))
    (hpay : iprop((dst.view.loc (c : Thread nD τ) ↦[dst.view.set]{fullShare} (dst.view.write (Elt F) fd (src.view.read (Elt F) fs) Finset.univ))
        ∗ (src.view.loc (c : Thread nD τ) ↦[src.view.set]{q} fs)) ⊢ payK m c k r true) (Q : PUnit → sProp 𝕄) :
    iprop(invs m K ∗ (src.view.loc (c : Thread nD τ) ↦[src.view.set]{q} fs) ∗ (dst.view.loc (c : Thread nD τ) ↦[dst.view.set]{fullShare} fd)
        ∗ dutyTok ER (cell c k) r true ∗ reached ER (cell c k) r)
      ⊢ iprop((cred (tallyAt (cell c k) () N) -∗ Q ⟨⟩)
        -∗ WP c (Prog.lift (.enqueueDma src (.here dst) (.dma s) hsrc hdst hsem)) Q) := by
  have hm : true ∈ (Rd (F := F) m).duties ((c : Thread nD τ), .dma s) r := by
    rw [← e, duties_cell, h]; exact Finset.mem_singleton_self _
  have hk : (Rd (F := F) m).amount ((c : Thread nD τ), .dma s) r true = N := by rw [← e, amount_cell, a]
  have hp : payK m c k r true = (Rd (F := F) m).payload ((c : Thread nD τ), .dma s) r true := by rw [← e, payload_cell]
  rw [hp] at hpay
  have g : cell c k = ((c : Thread nD τ), .dma s) := by rw [← e]
  have i := inv_at m K c k
  rw [g] at i
  rw [g]
  iintro ⟨#HI, Hs, Hd, Ht, Hr⟩ Hk
  iapply (Rounds.wp_copy_pointsTo 𝒱₀ ER (Rd m) (c : Thread nD τ) none hm () N hN hk hpay
    (κ := K ((c : Thread nD τ), .dma s))) $$ [Hs Hd Ht Hr]
  · isplitr; · iapply i; iexact HI
    isplitl [Hs]; · iexact Hs
    isplitl [Hd]; · iexact Hd
    isplitl [Ht]; · iexact Ht
    iexact Hr
  iintro Hc
  rw [wp_ret]
  imodintro
  iapply Hk
  iexact Hc

/-! ## The steps' conditions and remaining offset -/

theorem cond1_iff : ∀ i : grid0.Coords, k0_cond1 i = 1#1 ↔ (i 0).val = 0 := by decide +kernel
theorem cond2_iff : ∀ i : grid0.Coords, k0_cond2 i = 1#1 ↔ 2 ≤ (i 0).val := by decide +kernel
theorem cond3_iff : ∀ i : grid0.Coords, k0_cond3 i = 1#1 ↔ (i 0).val = 63 := by decide +kernel
theorem off5_eq : ∀ i : grid0.Coords, 2 ≤ (i 0).val → k0_off5 i = ![(i 0).val - 2] := by decide +kernel

/-- The slot a step's block leaves from. -/
def par (t : Fin 64) : Fin 2 := ⟨t.val % 2, Nat.mod_lt _ (by decide)⟩

section
variable (K : GSem nD τ sig → ℕ) (c : Dev nD) (i : grid0.Coords) (t : Fin 64) (ht : (i 0).val = t.val)
include ht

/-- The start of a step's write to the device's own result. -/
theorem wp_startLc (Q : PUnit → sProp 𝕄) :
    iprop(invs m K ∗ outPt c (par t).val fullShare.left (outV m c (blk (yc c) t.val)) ∗ resAny c (blk (yc c) t.val)
        ∗ dutyTok ER (cell c (.lc (par t))) (t.val / 2) true ∗ reached ER (cell c (.lc (par t))) (t.val / 2))
      ⊢ iprop((cred (tallyAt (cell c (.lc (par t))) () N) -∗ Q ⟨⟩)
        -∗ WP c (startLc (F := F) i c (Memref.whole main_v7) (Memref.whole cc0_scratch1) cc0_scratch6) Q) := by
  have eo : k0_off12 i = ![(par t).val, 0, 0] := by rw [k0_off12_eq, ht]; rfl
  have er : k0_off11 i c = ![4096 * yc c + 64 * t.val, 0] := by rw [k0_off11_eq, ht]; rfl
  have hout := outOf_set (par t).val _ (k0_off12_inb i) eo
  have hres := resOf_set (blk (yc c) t.val) _ (k0_off11_inb i c) (by rw [er]; unfold blk; congr 1; omega)
  have hland := landR m c c (owner_self c) t (par t) _ (k0_off12_inb i) eo _ (k0_off11_inb i c) er
  have hb : 2 * (t.val / 2) + (par t).val = t.val := by unfold par; dsimp only; omega
  have hr : t.val / 2 < 32 := by have := t.isLt; omega
  have hp : payK m c (.lc (par t)) (t.val / 2) true
      = iprop(resPt c (blk (yc c) t.val) (resV m c) ∗ outPt c (par t).val fullShare.left (outV m c (blk (yc c) t.val))) := by
    show iprop(resPt c (blk (yc c) (2 * (t.val / 2) + (par t).val)) (resV m c)
      ∗ outPt c (par t).val fullShare.left (outV m c (blk (yc c) (2 * (t.val / 2) + (par t).val)))) = _
    rw [hb]
  iintro ⟨#HI, Hs, ⟨%fd, Hd⟩, Ht, Hr⟩ Hk
  iapply (wp_copyK m K c (.lc (par t)) (t.val / 2)
    (outOf (Memref.whole cc0_scratch1) (k0_off12 i) (k0_off12_inb i)) (resOf (Memref.whole main_v7) (k0_off11 i c) (k0_off11_inb i c)) _
    (congrArg SemLoc.dma (lc_sem _ (k0_off10_inb i) (par t) (by rw [k0_off10_eq, ht]; rfl)).symm) _ _ _ (if_pos hr) rfl rfl fullShare.left
    (outV m c (blk (yc c) t.val)) fd (Entails.of_eq (by
      rw [hout, hres, hp]; exact congrArg (fun x => iprop(x ∗ _)) (pointsTo_congr (hland fd)))) Q) $$ [Hs Hd Ht Hr]
  · rw [hout, hres]
    isplitr; · iexact HI
    isplitl [Hs]; · iexact Hs
    isplitl [Hd]; · iexact Hd
    isplitl [Ht]; · iexact Ht
    iexact Hr
  iexact Hk

/-- The start of a step's block to the peer's result. -/
theorem wp_startSy (O : CellTallies nD τ sig Unit) (Q : PUnit → sProp 𝕄) :
    iprop(invs m K ∗ outPt c (par t).val fullShare.right (outV m c (blk (yc c) t.val)) ∗ resAny (yp c) (blk (yc c) t.val)
        ∗ owe c (O + tallyAt (cell (yp c) (.ar .ry t)) () N)
        ∗ dutyTok ER (cell c (.ar .sy t)) 0 true ∗ reached ER (cell c (.ar .sy t)) 0
        ∗ dutyTok ER (cell (yp c) (.ar .ry t)) 0 true ∗ reached ER (cell (yp c) (.ar .ry t)) 0)
      ⊢ iprop(((cred (tallyAt (cell c (.ar .sy t)) () N) ∗ owe c O) -∗ Q ⟨⟩)
        -∗ WP c (startSy (F := F) i c (Memref.whole main_v7) (Memref.whole cc0_scratch1) cc0_scratch4 cc0_scratch5) Q) := by
  have eo : k0_off12 i = ![(par t).val, 0, 0] := by rw [k0_off12_eq, ht]; rfl
  have er : k0_off11 i c = ![4096 * yc c + 64 * t.val, 0] := by rw [k0_off11_eq, ht]; rfl
  have es : k0_off2 i = ![t.val] := by rw [k0_off2_eq, ht]
  have hout := outOf_set (par t).val _ (k0_off12_inb i) eo
  have hres := resOf_set (blk (yc c) t.val) _ (k0_off11_inb i c) (by rw [er]; unfold blk; congr 1; omega)
  have hland := landR m c (yp c) (owner_yp c) t (par t) _ (k0_off12_inb i) eo _ (k0_off11_inb i c) er
  have hy : 1 - yc (yp c) = yc c := by rw [yc_yp]; have := yc_lt c; omega
  have hp : payK m (yp c) (.ar .ry t) 0 true = resPt (yp c) (blk (yc c) t.val) (resV m (yp c)) := by
    show resPt (yp c) (blk (1 - yc (yp c)) t.val) (resV m (yp c)) = _
    rw [hy]
  iintro ⟨#HI, Hs, ⟨%fd, Hd⟩, HO, Ht₁, Hr₁, Ht₂, Hr₂⟩ Hk
  iapply (wp_sendK m K c (yp c) (.ar .sy t) (.ar .ry t)
    (outOf (Memref.whole cc0_scratch1) (k0_off12 i) (k0_off12_inb i)) (resOf (Memref.whole main_v7) (k0_off11 i c) (k0_off11_inb i c))
    _ (dev67_eq c _) _ _ (congrArg SemLoc.dma (sy_sem _ (k0_off2_inb i) t es).symm) (congrArg SemLoc.dma (ry_sem _ (k0_off2_inb i) t es).symm) _ _ _ rfl rfl rfl rfl rfl
    fullShare.right (outV m c (blk (yc c) t.val)) fd O
    (Entails.of_eq (by rw [hout]; rfl)) (Entails.of_eq (by
      rw [hres, hp]; exact pointsTo_congr (hland fd))) Q) $$ [Hs Hd HO Ht₁ Hr₁ Ht₂ Hr₂]
  · rw [hout, hres]
    isplitr; · iexact HI
    isplitl [Hs]; · iexact Hs
    isplitl [Hd]; · iexact Hd
    isplitl [HO]; · iexact HO
    isplitl [Ht₁]; · iexact Ht₁
    isplitl [Hr₁]; · iexact Hr₁
    isplitl [Ht₂]; · iexact Ht₂
    iexact Hr₂
  iexact Hk

end

/-! ## The kernel's waits -/

/-- What a wait for a block takes. -/
abbrev waitPre (K : GSem nD τ sig → ℕ) (c : Dev nD) (k : CK) (r n : ℕ) : sProp 𝕄 :=
  iprop(invs m K ∗ levAts L lv ∗ atPos ER (cell c k) r ∅ 0 ∗ cred (tallyAt (cell c k) () N) ∗ owe c (owesY c n))
/-- What it gives back. -/
abbrev waitPost (c : Dev nD) (k : CK) (r n : ℕ) : sProp 𝕄 :=
  iprop(owe c (owesY c n) ∗ atPos ER (cell c k) (r + 1) ∅ 0 ∗ reached ER (cell c k) (r + 1) ∗ payK m c k r true)

section
variable (K : GSem nD τ sig → ℕ) (c : Dev nD) (i : grid0.Coords) (t : Fin 64) (n : ℕ)

theorem wp_waitSx (h3) (j : Fin 64) (Q : PUnit → sProp 𝕄) :
    waitPre m K c (.ar .sx j) 0 n ⊢ iprop((waitPost m c (.ar .sx j) 0 n -∗ Q ⟨⟩)
      -∗ WP c (waitSx (F := F) i c (Memref.whole main_arg0) (Memref.whole cc0_scratch0) cc0_scratch2 h3 j) Q) := by
  refine wp_waitK m K c (.ar .sx j) 0 N rfl rfl _ (fun Kt => ?_) _ ?_ Q
  · rw [sx_sem _ (inb64 j) j rfl]
    rfl
  · exact (mayWait_Y c _ n (by simp [lvK]))

theorem wp_waitRy (h3) (j : Fin 64) (Q : PUnit → sProp 𝕄) :
    waitPre m K c (.ar .ry j) 0 64 ⊢ iprop((waitPost m c (.ar .ry j) 0 64 -∗ Q ⟨⟩)
      -∗ WP c (waitRy (F := F) i c (Memref.whole main_v7) (Memref.whole cc0_scratch1) cc0_scratch5 h3 j) Q) := by
  refine wp_waitK m K c (.ar .ry j) 0 N rfl rfl _ (fun Kt => ?_) _ ?_ Q
  · rw [ry_sem _ (inb64 j) j rfl]
    rfl
  · rw [owesY_last, MayWait_zero]
    iintro -; iempintro

theorem wp_waitRx (ht : (i 0).val = t.val) (Q : PUnit → sProp 𝕄) :
    waitPre m K c (.ar .rx t) 0 n ⊢ iprop((waitPost m c (.ar .rx t) 0 n -∗ Q ⟨⟩)
      -∗ WP c (waitRx (F := F) i c (Memref.whole main_arg0) (Memref.whole cc0_scratch0) cc0_scratch3) Q) := by
  refine wp_waitK m K c (.ar .rx t) 0 N rfl rfl _ (fun Kt => ?_) _ ?_ Q
  · rw [rx_sem _ (k0_off2_inb i) t (by rw [k0_off2_eq, ht])]
    rfl
  · exact (mayWait_Y c _ n (by simp [lvK]))

theorem wp_waitSy (o : Fin 1 → Nat) (ho) (q hq) (j : Fin 64) (e : o = ![j.val]) (Q : PUnit → sProp 𝕄) :
    waitPre m K c (.ar .sy j) 0 n ⊢ iprop((waitPost m c (.ar .sy j) 0 n -∗ Q ⟨⟩)
      -∗ WP c (waitSy (F := F) (Memref.whole main_v7) (Memref.whole cc0_scratch1) cc0_scratch4 o ho q hq) Q) := by
  refine wp_waitK m K c (.ar .sy j) 0 N rfl rfl _ (fun Kt => ?_) _ ?_ Q
  · rw [sy_sem _ ho j e]
    rfl
  · exact (mayWait_Y c _ n (by simp [lvK]))

theorem wp_waitLc (o : Fin 1 → Nat) (ho) (q hq) (s : Fin 2) (e : o = ![s.val]) (r : ℕ) (hr : r < 32) (Q : PUnit → sProp 𝕄) :
    waitPre m K c (.lc s) r n ⊢ iprop((waitPost m c (.lc s) r n -∗ Q ⟨⟩)
      -∗ WP c (waitLc (F := F) (Memref.whole main_v7) (Memref.whole cc0_scratch1) cc0_scratch6 o ho q hq) Q) := by
  refine wp_waitK m K c (.lc s) r N (if_pos hr) rfl _ (fun Kt => ?_) _ ?_ Q
  · rw [lc_sem _ ho s e]
    rfl
  · exact (mayWait_Y c _ n (by simp [lvK]))

end

/-! ## The barrier -/

/-- A unit to a peer's barrier, with the duty's payload. -/
theorem wp_signalK (K : GSem nD τ sig → ℕ) (c d d' : Dev nD) (hd : d' = d) (b : Bool) (O : CellTallies nD τ sig Unit) (Q : PUnit → sProp 𝕄) :
    iprop(invs m K ∗ owe c (O + tallyAt (cell d .bar) () 1) ∗ dutyTok ER (cell d .bar) 0 b ∗ payK m d .bar 0 b ∗ reached ER (cell d .bar) 0)
      ⊢ iprop((owe c O -∗ Q ⟨⟩) -∗ WP c (semSignalWord (d' : Dev nD) barS 1#32) Q) := by
  subst hd
  unfold owe
  have hm : b ∈ (Rd (F := F) m).duties (cell d' .bar) 0 := by
    rw [duties_cell]; exact Finset.mem_univ _
  have ha := amount_cell m d' .bar 0 b
  have hi := inv_at m K d' .bar
  rw [← payload_cell m d' .bar 0 b]
  rw [show cell d' .bar = ((d' : Thread nD τ), .reg barS) from rfl] at hm ha hi ⊢
  iintro ⟨#HI, ⟨%W, HO⟩, Ht, Hp, Hr⟩ Hk
  iapply (Rounds.wp_signal 𝒱₀ ER (Rd m) (c : Thread nD τ) none hm ha () O rfl
    (κ := K ((d' : Thread nD τ), .reg barS)) (W := W)) $$ [HO Ht Hp Hr]
  · isplitr; · iapply hi; iexact HI
    isplitl [HO]; · iexact HO
    isplitl [Ht]; · iexact Ht
    isplitl [Hp]; · iexact Hp
    iexact Hr
  iintro HO
  rw [wp_ret]
  imodintro
  iapply Hk
  iexists _; iexact HO

/-- The wait for both peers at the barrier. -/
theorem wp_waitBar (K : GSem nD τ sig → ℕ) (c : Dev nD) (Q : PUnit → sProp 𝕄) :
    iprop(invs m K ∗ levAts L lv ∗ atPos ER (cell c .bar) 0 ∅ 0 ∗ cred (tallyAt (cell c .bar) () 2) ∗ owe c (owesY c 0 + owesX c 0))
      ⊢ iprop(((owe c (owesY c 0 + owesX c 0) ∗ atPos ER (cell c .bar) 1 ∅ 0 ∗ barPayX (xp c) ∗ barPayY (yp c)) -∗ Q ⟨⟩)
        -∗ WP c (semWaitWord barS 2#32) Q) := by
  unfold owe
  have he : 0 + (2#32).toNat = (Rd (F := F) m).expect (cell c .bar) 0 := by rw [expect_cell]; rfl
  have hi := inv_at m K c .bar
  have hl := mayWait_bar (F := F) c
  have hp := rest_bar m c
  rw [show cell c .bar = ((c : Thread nD τ), .reg barS) from rfl] at he hi hp ⊢
  iintro ⟨#HI, #Hl, Hat, Hc, ⟨%W, HO⟩⟩ Hk
  iapply (Rounds.wp_wait_rest_token 𝒱₀ ER (Rd m) (c : Thread nD τ) none (κ := K ((c : Thread nD τ), .reg barS)) (wpE_semWait_eq 𝒱₀ (c : Thread nD τ) none Set.univ)
    (Set.mem_univ _) () (O := owesY c 0 + owesX c 0) (W := W) (R := 0) (m := 0) (T := ∅) he) $$ [Hat Hc HO]
  · isplitr; · iapply hi; iexact HI
    isplitl [Hc]; · iexact Hc
    isplitl [HO]; · iexact HO
    isplitr; · iapply hl; iexact Hl
    iexact Hat
  iintro ⟨HO, Hat, -, Hp⟩
  rw [wp_ret]
  imodintro
  iapply Hk
  isplitl [HO]; · iexists _; iexact HO
  isplitl [Hat]; · iexact Hat
  iapply (Entails.of_eq hp) $$ Hp

end Cert.KernelIdeal.Hand

end
-- ==== Proof.Rows.lean ====
/- One step's computation: its loads, and its store of the finished rows. -/
module

public import proofs.«01_k».proof.Proof.Steps

@[expose] public section

noncomputable section

namespace Cert.KernelIdeal.Hand

open Idealize.ShloMosaic Idealize.ShloMosaic.TcCoe Cert.KernelIdeal.Gen Idealize.ShloMosaic.ValueIdx
open Idealize.SL Idealize.SL.RA Idealize.SL.BI
open scoped Idealize.SL.BI
open Idealize.SL.BI.BIBase Idealize.SL.BI.Laws Idealize.SL.ProofMode
open Idealize.SL.Sem

variable {F : FTy → Type} [FloatOps F]

local notation "𝕄" => MT nD τ sig Unit (Elt F) ℕ UU ℕ

variable (m : (ℓ : Loc nD τ sig) → Buf (Elt F) ℓ)

/-- The step's loads and its store. -/
def rows (i : grid0.Coords) (arg7 : Memref sig .tc .vmem S64x64x2048 .f32) (arg8 : Memref sig .tc .vmem S2x64x2048 .f32)
    (arg3 : Memref sig .tc .vmem S1x64x2048 .f32) (arg4 : Memref sig .tc .vmem S64x2048 .f32) (arg5 : Memref sig .tc .vmem S1x2048 .f32) :
    KProg F PUnit := do
  let v27 : Vec F S1x64x2048 .f32 ← Prog.lift (.load arg3 (Rect.unit (s := S1x64x2048) ![0, 0, 0] S1x64x2048.size inb_S1x64x2048_S1x64x2048_0_0_0).toLoadRect (View.loadsAt_vmem h_S1x64x2048))
  let v30 : Vec F S1x64x2048 .f32 ← Prog.lift (.load arg7 (Rect.unit (s := S64x64x2048) (k0_off8 i) S1x64x2048.size (k0_off8_inb i)).toLoadRect (View.loadsAt_vmem h_S1x64x2048))
  let v33 : Vec F S64x2048 .f32 ← Prog.lift (.load arg4 (Rect.unit (s := S64x2048) ![0, 0] S64x2048.size inb_S64x2048_S64x2048_0_0).toLoadRect (View.loadsAt_vmem h_S64x2048))
  let v46 : Vec F S1x2048 .f32 ← Prog.lift (.load arg5 (Rect.unit (s := S1x2048) ![0, 0] S1x2048.size inb_S1x2048_S1x2048_0_0).toLoadRect (View.loadsAt_vmem h_S1x2048))
  let v51 : Vec F S1x64x2048 .f32 ← Prog.lift (.load arg8 (Rect.unit (s := S2x64x2048) (k0_off9 i) S1x64x2048.size (k0_off9_inb i)).toLoadRect (View.loadsAt_vmem h_S1x64x2048))
  Prog.lift (.store arg8 (Rect.unit (s := S2x64x2048) (k0_off9 i) S1x64x2048.size (k0_off9_inb i)) (k0_pay2 (k0_pay1 v27) v30 v33 v46) Finset.univ (View.stores_vmem_bits_univ h_S1x64x2048 rfl) (.inl rfl))

/-- The body, its computation apart. -/
theorem bodyC_rows (i : grid0.Coords) (arg2 : Memref sig .tc .hbm S1x8192x2048 .f32) (arg6 : Memref sig .tc .hbm S8192x2048 .f32)
    (arg7 : Memref sig .tc .vmem S64x64x2048 .f32) (arg8 : Memref sig .tc .vmem S2x64x2048 .f32)
    (arg9 arg10 arg11 arg12 : DmaSems sig S64) (arg13 : DmaSems sig S2)
    (arg3 : Memref sig .tc .vmem S1x64x2048 .f32) (arg4 : Memref sig .tc .vmem S64x2048 .f32) (arg5 : Memref sig .tc .vmem S1x2048 .f32) :
    bodyC (F := F) i arg2 arg6 arg7 arg8 arg9 arg10 arg11 arg12 arg13 arg3 arg4 arg5 = (do
      let c : Dev nD ← Prog.lift .deviceId
      whenC (k0_cond1 i = 1#1) fun h1 => opening i c arg2 arg7 arg9 arg10 h1
      waitRx i c arg2 arg7 arg10
      whenC (k0_cond2 i = 1#1) fun h2 => reuse i arg6 arg8 arg11 arg13 h2
      rows i arg7 arg8 arg3 arg4 arg5
      startLc i c arg6 arg8 arg13
      startSy i c arg6 arg8 arg11 arg12
      whenC (k0_cond3 i = 1#1) fun h3 => ending i c arg2 arg6 arg7 arg8 arg9 arg11 arg12 arg13 h3) := rfl

/-! ## What the loads read and the store leaves -/

set_option backward.isDefEq.respectTransparency.types false

/-- A memref read over all its elements gives its contents. -/
theorem read_all {sp : Space} {s : Shape} {e : EltTy} (M : Memref sig .tc sp s e) (o : Fin s.rank → Nat) (h : ∀ a, o a + s.size a ≤ s.size a)
    (ho : ∀ a, o a = 0) (f : M.view.ty.Contents (Elt F)) :
    (M.access (Rect.unit (s := s) o s.size h)).read (Elt F) f = M.view.read (Elt F) f := by
  funext x
  rw [View.read_apply, View.read_apply]
  have hx : (M.access (Rect.unit (s := s) o s.size h)).emb x = M.view.emb x := by
    show M.view.emb ((Rect.unit (s := s) o s.size h).emb x) = _
    refine congrArg _ ?_
    funext a
    apply Fin.ext
    rw [Rect.emb_apply]
    simp [Rect.unit, ho a]
  rw [hx]

/-- The load of a whole operand held in a staging buffer. -/
theorem wp_load_all (c : Dev nD) {s : Shape} {e : EltTy} (M : Memref sig .tc .vmem s e) (o : Fin s.rank → Nat) (h : ∀ a, o a + s.size a ≤ s.size a)
    (ho : ∀ a, o a = 0) (hl) (q : PosShare TreeShare) (X : Vec F s e) (Q : Vec F s e → sProp 𝕄) :
    (owns (c : Thread nD τ) M q X : sProp 𝕄) ⊢ iprop((owns (c : Thread nD τ) M q X -∗ Q X)
      -∗ WP c (Prog.lift (.load M (Rect.unit (s := s) o s.size h).toLoadRect hl)) Q) := by
  unfold owns
  iintro ⟨%f, %hf, H⟩ Hk
  iapply (wp_load_rect 𝒱₀ (c : Thread nD τ) none Set.univ (m := M) (r := Rect.unit (s := s) o s.size h) (S := M.view.set) (q := q) (f := f) (View.set_slice_subset _ _)) $$ H
  iintro H
  rw [wp_ret]
  imodintro
  rw [read_all M o h ho f, hf]
  iapply Hk
  iexists f
  isplitr; · ipureintro; exact hf
  iexact H

/-- The slot a step reads: where it lies. -/
theorem slot_access_set (i : grid0.Coords) (t : Fin 64) (ht : (i 0).val = t.val) :
    ((Memref.whole cc0_scratch0 : Memref sig .tc .vmem S64x64x2048 .f32).access (Rect.unit (s := S64x64x2048) (k0_off8 i) S1x64x2048.size (k0_off8_inb i))).set
      = slotSet t.val := by
  have h := slotOf_set t.val (k0_off8 i) (k0_off8_inb i) (by rw [k0_off8_eq, ht])
  unfold slotOf at h
  rw [Memref.set_view_squeeze] at h
  exact h

/-- The slot a step writes: where it lies. -/
theorem out_access_set (i : grid0.Coords) (t : Fin 64) (ht : (i 0).val = t.val) :
    ((Memref.whole cc0_scratch1 : Memref sig .tc .vmem S2x64x2048 .f32).access (Rect.unit (s := S2x64x2048) (k0_off9 i) S1x64x2048.size (k0_off9_inb i))).set
      = outSet (par t).val := by
  have h := outOf_set (par t).val (k0_off9 i) (k0_off9_inb i) (by rw [k0_off9_eq, ht]; rfl)
  unfold outOf at h
  rw [Memref.set_view_squeeze] at h
  exact h

theorem ix3_eta (i : S1x64x2048.Idx) : ∃ (x : Fin 64) (y : Fin 2048), i = ix3 (0 : Fin 1) x y :=
  ⟨i 1, i 2, by funext a; fin_cases a <;> first | rfl | exact Fin.ext (by have := (i 0).isLt; simp [S1x64x2048] at this; simpa [ix3] using this)⟩

/-- What a step reads from its slot once the exchange has landed: the peer's block. -/
theorem slot_access_read (c : Dev nD) (i : grid0.Coords) (t : Fin 64) (ht : (i 0).val = t.val) :
    ((Memref.whole cc0_scratch0 : Memref sig .tc .vmem S64x64x2048 .f32).access (Rect.unit (s := S64x64x2048) (k0_off8 i) S1x64x2048.size (k0_off8_inb i))).read
      (Elt F) (landV m c) = partB m (xp c) (blk (yc c) t.val) := by
  funext x
  obtain ⟨a, b, rfl⟩ := ix3_eta x
  have hx : ((Memref.whole cc0_scratch0 : Memref sig .tc .vmem S64x64x2048 .f32).access (Rect.unit (s := S64x64x2048) (k0_off8 i) S1x64x2048.size (k0_off8_inb i))).emb
      (ix3 (0 : Fin 1) a b) = (ix3 t a b : S64x64x2048.Idx) := by
    show (Rect.unit (s := S64x64x2048) (k0_off8 i) S1x64x2048.size (k0_off8_inb i)).emb (ix3 (0 : Fin 1) a b) = _
    funext k
    apply Fin.ext
    rw [Rect.emb_apply]
    have e : k0_off8 i = ![t.val, 0, 0] := by rw [k0_off8_eq, ht]
    fin_cases k <;> simp [ix3, Rect.unit, e]
  rw [View.read_apply, hx]
  rfl

/-- What a step's store leaves in its slot. -/
theorem out_access_write (c : Dev nD) (b : Nat) (i : grid0.Coords) (t : Fin 64) (ht : (i 0).val = t.val) (f) :
    ∀ x ∈ outSet (par t).val, ((Memref.whole cc0_scratch1 : Memref sig .tc .vmem S2x64x2048 .f32).access (Rect.unit (s := S2x64x2048) (k0_off9 i) S1x64x2048.size (k0_off9_inb i))).write
      (Elt F) f (outRows m c b) Finset.univ x = outV m c b x := by
  rw [← out_access_set i t ht]
  intro x hx
  obtain ⟨y, -, rfl⟩ := Finset.mem_map.mp hx
  rw [View.write_emb_of_mem _ _ (Finset.mem_univ y)]
  obtain ⟨p, q, rfl⟩ := ix3_eta y
  have hy : ((Memref.whole cc0_scratch1 : Memref sig .tc .vmem S2x64x2048 .f32).access (Rect.unit (s := S2x64x2048) (k0_off9 i) S1x64x2048.size (k0_off9_inb i))).emb
      (ix3 (0 : Fin 1) p q) = (ix3 (par t) p q : S2x64x2048.Idx) := by
    show (Rect.unit (s := S2x64x2048) (k0_off9 i) S1x64x2048.size (k0_off9_inb i)).emb (ix3 (0 : Fin 1) p q) = _
    funext k
    apply Fin.ext
    rw [Rect.emb_apply]
    have e : k0_off9 i = ![(par t).val, 0, 0] := by rw [k0_off9_eq, ht]; rfl
    fin_cases k <;> simp [ix3, Rect.unit, e]
  rw [hy]
  rfl

/-- The step's computation leaves its block's finished rows in the step's slot. -/
theorem wp_rows (c : Dev nD) (i : grid0.Coords) (t : Fin 64) (ht : (i 0).val = t.val)
    (arg3 : Memref sig .tc .vmem S1x64x2048 .f32) (arg4 : Memref sig .tc .vmem S64x2048 .f32) (arg5 : Memref sig .tc .vmem S1x2048 .f32) (Q : PUnit → sProp 𝕄) :
    iprop(owns (c : Thread nD τ) arg3 fullShare (partB m c (blk (yc c) t.val)) ∗ owns (c : Thread nD τ) arg4 fullShare (residB m c (blk (yc c) t.val))
        ∗ owns (c : Thread nD τ) arg5 fullShare (gam m c) ∗ slotPt c t.val (landV m c) ∗ outAny c (par t).val)
      ⊢ iprop(((owns (c : Thread nD τ) arg3 fullShare (partB m c (blk (yc c) t.val)) ∗ owns (c : Thread nD τ) arg4 fullShare (residB m c (blk (yc c) t.val))
          ∗ owns (c : Thread nD τ) arg5 fullShare (gam m c) ∗ slotPt c t.val (landV m c) ∗ outPt c (par t).val fullShare (outV m c (blk (yc c) t.val))) -∗ Q ⟨⟩)
        -∗ WP c (rows (F := F) i (Memref.whole cc0_scratch0) (Memref.whole cc0_scratch1) arg3 arg4 arg5) Q) := by
  unfold rows
  simp only [WP, wp_bind]
  iintro ⟨H3, H4, H5, H7, ⟨%f, H8⟩⟩ Hk
  iapply (wp_load_all c arg3 ![0, 0, 0] inb_S1x64x2048_S1x64x2048_0_0_0 (by decide) _ _ _ _) $$ H3
  iintro H3
  iapply (wp_load_rect 𝒱₀ (c : Thread nD τ) none Set.univ (m := Memref.whole cc0_scratch0) (r := Rect.unit (s := S64x64x2048) (k0_off8 i) S1x64x2048.size (k0_off8_inb i))
    (S := slotSet t.val) (q := fullShare) (f := landV m c) (slot_access_set i t ht).le) $$ H7
  iintro H7
  rw [wp_ret, slot_access_read m c i t ht]
  imodintro
  iapply (wp_load_all c arg4 ![0, 0] inb_S64x2048_S64x2048_0_0 (by decide) _ _ _ _) $$ H4
  iintro H4
  iapply (wp_load_all c arg5 ![0, 0] inb_S1x2048_S1x2048_0_0 (by decide) _ _ _ _) $$ H5
  iintro H5
  iapply (wp_load_rect 𝒱₀ (c : Thread nD τ) none Set.univ (m := Memref.whole cc0_scratch1) (r := Rect.unit (s := S2x64x2048) (k0_off9 i) S1x64x2048.size (k0_off9_inb i))
    (S := outSet (par t).val) (q := fullShare) (f := f) (out_access_set i t ht).le) $$ H8
  iintro H8
  rw [wp_ret]
  imodintro
  iapply (wp_store 𝒱₀ (c : Thread nD τ) none Set.univ (m := Memref.whole cc0_scratch1) (r := Rect.unit (s := S2x64x2048) (k0_off9 i) S1x64x2048.size (k0_off9_inb i))
    (S := outSet (par t).val) (f := f) (out_access_set i t ht).le) $$ H8
  iintro H8
  rw [wp_ret]
  imodintro
  iapply Hk
  isplitl [H3]; · iexact H3
  isplitl [H4]; · iexact H4
  isplitl [H5]; · iexact H5
  isplitl [H7]; · iexact H7
  iapply (Entails.of_eq (pointsTo_congr (out_access_write m c (blk (yc c) t.val) i t ht f))) $$ H8

end Cert.KernelIdeal.Hand

end
-- ==== Proof.Inv.lean ====
/- What a device holds between two steps of the kernel, and what the kernel's opening, a step's
   transfers and the kernel's ending make of it. -/
module

public import proofs.«01_k».proof.Proof.Rows

@[expose] public section

noncomputable section

namespace Cert.KernelIdeal.Hand

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- A family over a device's semaphores, array by array. -/
theorem bs_DK (Φ : DK → sProp 𝕄) :
    bigSep Finset.univ Φ = iprop((bigSep Finset.univ (fun j => Φ (.inl (.sx, j))) ∗ bigSep Finset.univ (fun j => Φ (.inl (.rx, j)))
      ∗ bigSep Finset.univ (fun j => Φ (.inl (.sy, j))) ∗ bigSep Finset.univ (fun j => Φ (.inl (.ry, j)))) ∗ Φ (.inr 0) ∗ Φ (.inr 1)) := by
  have h : (Finset.univ : Finset Arr) = {.sx, .rx, .sy, .ry} := rfl
  refine (BI.bigSep_univ_sum Φ).trans ?_
  rw [BI.bigSep_univ_prod, h, BI.bigSep_insert (by decide), BI.bigSep_insert (by decide), BI.bigSep_insert (by decide), BI.bigSep_singleton,
    BI.bigSep_fin_two]
  rfl

/-- A family over the slots with one slot apart. -/
theorem bs_at {s : Finset (Fin 64)} {i : Fin 64} (h : i ∈ s) (Φ : Fin 64 → sProp 𝕄) :
    bigSep s Φ = iprop(Φ i ∗ bigSep (s.erase i) Φ) := BI.bigSep_erase h

/-- Two families over the slots, as one of pairs. -/
theorem bs_join (A B : Fin 64 → sProp 𝕄) :
    iprop(bigSep Finset.univ A ∗ bigSep Finset.univ B) ⊢ bigSep Finset.univ fun j => iprop(A j ∗ B j) := Entails.of_eq (bigSep_sep' _ A B).symm
theorem bs_part (A B : Fin 64 → sProp 𝕄) :
    (bigSep Finset.univ fun j => iprop(A j ∗ B j)) ⊢ iprop(bigSep Finset.univ A ∗ bigSep Finset.univ B) := Entails.of_eq (bigSep_sep' _ A B)

/-! ## Between two steps -/

section
variable (c : Dev nD)

/-- For a step to come: its wait for the exchange. -/
def FreshA (j : Fin 64) : sProp 𝕄 := iprop(atPos ER (cell c (.ar .rx j)) 0 ∅ 0 ∗ cred (tallyAt (cell c (.ar .rx j)) () N))
/-- For a step to come: its block's two writes, but for the peer's rows. -/
def FreshB (j : Fin 64) : sProp 𝕄 :=
  iprop(atPos ER (cell c (.ar .sy j)) 0 ∅ 0 ∗ reached ER (cell c (.ar .sy j)) 0 ∗ dutyTok ER (cell c (.ar .sy j)) 0 true
    ∗ dutyTok ER (cell (yp c) (.ar .ry j)) 0 true ∗ dutyTok ER (cell c (.lc (par j))) (j.val / 2) true ∗ resAny c (blk (yc c) j.val))
/-- For a step to come: the peer's rows of the result. -/
def FreshP (j : Fin 64) : sProp 𝕄 := iprop(resAny (yp c) (blk (yc c) j.val) ∗ reached ER (cell (yp c) (.ar .ry j)) 0)
/-- A slot ready for step `j`'s block. -/
def Ready (j : Fin 64) : sProp 𝕄 :=
  iprop(outAny c (par j).val ∗ atPos ER (cell c (.lc (par j))) (j.val / 2) ∅ 0 ∗ reached ER (cell c (.lc (par j))) (j.val / 2))
/-- The first two steps find their slots ready. -/
def FreshC (j : Fin 64) : sProp 𝕄 := if j.val < 2 then Ready c j else iprop(emp)
/-- A step to come. -/
def Fresh (j : Fin 64) : sProp 𝕄 := iprop(FreshA c j ∗ FreshB c j ∗ FreshP c j ∗ FreshC c j)
/-- A step whose block is leaving its slot. -/
def Fly (j : Fin 64) : sProp 𝕄 :=
  iprop((atPos ER (cell c (.ar .rx j)) 1 ∅ 0 ∗ slotPt c j.val (landV m c))
    ∗ (atPos ER (cell c (.ar .sy j)) 0 ∅ 0 ∗ cred (tallyAt (cell c (.ar .sy j)) () N))
    ∗ (atPos ER (cell c (.lc (par j))) (j.val / 2) ∅ 0 ∗ cred (tallyAt (cell c (.lc (par j))) () N)))
/-- A step whose block has left its slot. -/
def Done (j : Fin 64) : sProp 𝕄 :=
  iprop((atPos ER (cell c (.ar .rx j)) 1 ∅ 0 ∗ slotPt c j.val (landV m c))
    ∗ atPos ER (cell c (.ar .sy j)) 1 ∅ 0 ∗ resPt c (blk (yc c) j.val) (resV m c))
/-- Step `j`, seen when step `t` starts. -/
def St (t : Nat) (j : Fin 64) : sProp 𝕄 := if t ≤ j.val then Fresh c j else if t ≤ j.val + 2 then Fly m c j else Done m c j

/-- The exchanges' departures, waited for at the end. -/
def EndX (j : Fin 64) : sProp 𝕄 := iprop(atPos ER (cell c (.ar .sx j)) 0 ∅ 0 ∗ cred (tallyAt (cell c (.ar .sx j)) () N))
/-- The peer's blocks' arrivals, waited for at the end. -/
def EndY (j : Fin 64) : sProp 𝕄 := iprop(atPos ER (cell c (.ar .ry j)) 0 ∅ 0 ∗ cred (tallyAt (cell c (.ar .ry j)) () N))

variable (K : GSem nD τ sig → ℕ)

/-- Between two steps. -/
def Inv (t : Nat) : sProp 𝕄 :=
  iprop((invs m K ∗ levAts L lv) ∗ bigSep Finset.univ (St m c t) ∗ bigSep Finset.univ (EndX c) ∗ bigSep Finset.univ (EndY c) ∗ atPos ER (cell c .bar) 1 ∅ 0)

/-- Before the first step: what each exchange takes. -/
def PreX (j : Fin 64) : sProp 𝕄 :=
  iprop(srcPt m c (blk (yc c) j.val) ∗ dutyTok ER (cell c (.ar .sx j)) 0 true ∗ reached ER (cell c (.ar .sx j)) 0
    ∗ dutyTok ER (cell (xp c) (.ar .rx j)) 0 true)

/-- Before the first step. -/
def Start : sProp 𝕄 :=
  iprop((invs m K ∗ levAts L lv)
    ∗ (atPos ER (cell c .bar) 0 ∅ 0 ∗ cred (tallyAt (cell c .bar) () 2)
      ∗ (dutyTok ER (cell (xp c) .bar) 0 true ∗ reached ER (cell (xp c) .bar) 0) ∗ (dutyTok ER (cell (yp c) .bar) 0 false ∗ reached ER (cell (yp c) .bar) 0))
    ∗ (barPayX c ∗ barPayY c)
    ∗ bigSep Finset.univ (PreX m c) ∗ bigSep Finset.univ (fun j => atPos ER (cell c (.ar .sx j)) 0 ∅ 0)
    ∗ bigSep Finset.univ (FreshA c) ∗ bigSep Finset.univ (FreshB c) ∗ bigSep Finset.univ (FreshC c) ∗ bigSep Finset.univ (EndY c))

/-- After the last step: every counter closed at zero, and the buffers. -/
def End : sProp 𝕄 :=
  iprop((bigSep Finset.univ (fun d : DK => (semVal (cell c (kD d)) 0 : sProp 𝕄)) ∗ semVal (cell c .bar) 0)
    ∗ bigSep Finset.univ (fun j : Fin 64 => slotPt c j.val (landV m c))
    ∗ (outAny c 0 ∗ outAny c 1)
    ∗ bigSep Finset.univ (fun j : Fin 64 => srcPt m c (blk (yc c) j.val))
    ∗ bigSep Finset.univ (fun j : Fin 64 => resPt c (blk (yc c) j.val) (resV m c))
    ∗ bigSep Finset.univ (fun j : Fin 64 => resPt c (blk (1 - yc c) j.val) (resV m c)))

/-! ## The opening -/

/-- The barrier and the 64 exchanges. -/
theorem wp_opening (i : grid0.Coords) (h1 : k0_cond1 i = 1#1) (Q : PUnit → sProp 𝕄) :
    iprop(Start m c K ∗ owe c (owes0 c))
      ⊢ iprop(((Inv m c K 0 ∗ owe c (owesY c 0)) -∗ Q ⟨⟩)
        -∗ WP c (opening (F := F) i c (Memref.whole main_arg0) (Memref.whole cc0_scratch0) cc0_scratch2 cc0_scratch3 h1) Q) := by
  have hy : 1 - yc (yp c) = yc c := by rw [yc_yp]; have := yc_lt c; omega
  have eX : payK m (xp c) .bar 0 true = barPayX c := by
    show barPayX (xp (xp c)) = _
    rw [xp_xp]
  have eY : payK m (yp c) .bar 0 false = barPayY c := by
    show barPayY (yp (yp c)) = _
    rw [yp_yp]
  have hst : bigSep Finset.univ (St m c 0) = bigSep Finset.univ (Fresh (F := F) c) :=
    bigSep_congr fun j _ => if_pos (Nat.zero_le _)
  have hp : barPayY (yp c) = bigSep Finset.univ (FreshP (F := F) c) := by
    unfold barPayY FreshP
    rw [hy]
  have hstep : ∀ (j : Fin 64) (Q : PUnit → sProp 𝕄),
      iprop(invs m K ∗ (PreX m c j ∗ slotAny (xp c) j.val ∗ reached ER (cell (xp c) (.ar .rx j)) 0) ∗ owe c (owesY c 0 + owesX c j.val))
        ⊢ iprop(((cred (tallyAt (cell c (.ar .sx j)) () N) ∗ owe c (owesY c 0 + owesX c (j.val + 1))) -∗ Q ⟨⟩)
          -∗ WP c (startX (F := F) i c (Memref.whole main_arg0) (Memref.whole cc0_scratch0) cc0_scratch2 cc0_scratch3 h1 j) Q) := by
    intro j Q
    rw [owesX_step c j, ← add_assoc]
    unfold PreX
    iintro ⟨#HI, ⟨⟨Hs, Ht, Hr, Ht'⟩, Hd, Hr'⟩, HO⟩ Hk
    iapply (wp_startX m K c i h1 j _ Q) $$ [Hs Ht Hr Ht' Hd Hr' HO]
    · isplitr; · iexact HI
      isplitl [Hs]; · iexact Hs
      isplitl [Hd]; · iexact Hd
      isplitl [HO]; · iexact HO
      isplitl [Ht]; · iexact Ht
      isplitl [Hr]; · iexact Hr
      isplitl [Ht']; · iexact Ht'
      iexact Hr'
    iexact Hk
  unfold Start Inv opening
  rw [hst]
  simp only [WP, wp_bind]
  iintro ⟨⟨⟨#HI, #Hl⟩, ⟨Hbat, Hbc, ⟨HtX, HrX⟩, ⟨HtY, HrY⟩⟩, ⟨HpX, HpY⟩, Hpre, Hsx, HA, HB, HC, HE⟩, HO⟩ Hk
  unfold owes0
  iapply (wp_signalK m K c (xp c) _ (dev1_eq c _) true ((owesY c 0 + owesX c 0) + tallyAt (cell (yp c) .bar) () 1) _) $$ [HO HtX HpX HrX]
  · isplitr; · iexact HI
    isplitl [HO]; · iexact HO
    isplitl [HtX]; · iexact HtX
    isplitl [HpX]; · rw [eX]; iexact HpX
    iexact HrX
  iintro HO
  iapply (wp_signalK m K c (yp c) _ (dev2_eq c _) false (owesY c 0 + owesX c 0) _) $$ [HO HtY HpY HrY]
  · isplitr; · iexact HI
    isplitl [HO]; · iexact HO
    isplitl [HtY]; · iexact HtY
    isplitl [HpY]; · rw [eY]; iexact HpY
    iexact HrY
  iintro HO
  iapply (wp_waitBar m K c _) $$ [Hbat Hbc HO]
  · isplitr; · iexact HI
    isplitr; · iexact Hl
    isplitl [Hbat]; · iexact Hbat
    isplitl [Hbc]; · iexact Hbc
    iexact HO
  iintro ⟨HO, Hbat, HqX, HqY⟩
  unfold barPayX
  iapply (wp_loop c _ (invs m K) (fun j => iprop(PreX m c j ∗ slotAny (xp c) j.val ∗ reached ER (cell (xp c) (.ar .rx j)) 0))
    (fun j => cred (tallyAt (cell c (.ar .sx j)) () N)) (fun k => owe c (owesY c 0 + owesX c k)) hstep Q) $$ [Hpre HqX HO]
  · isplitr; · iexact HI
    isplitl [Hpre HqX]
    · iapply (bs_join (PreX m c) _)
      isplitl [Hpre]; · iexact Hpre
      iexact HqX
    iexact HO
  iintro ⟨Hc, HO⟩
  ihave HO := (Entails.of_eq (by rw [owesX_last, add_zero]) : owe c (owesY c 0 + owesX c 64) ⊢ (owe c (owesY c 0) : sProp 𝕄)) $$ HO
  ihave HqY := (Entails.of_eq hp) $$ HqY
  iapply Hk
  isplitl [Hbat HqY Hc Hsx HA HB HC HE]
  · isplitr
    · isplitr; · iexact HI
      iexact Hl
    isplitl [HA HB HqY HC]
    · iapply (bs_join (FreshA c) _)
      isplitl [HA]; · iexact HA
      iapply (bs_join (FreshB c) _)
      isplitl [HB]; · iexact HB
      iapply (bs_join (FreshP c) _)
      isplitl [HqY]; · iexact HqY
      iexact HC
    isplitl [Hsx Hc]
    · iapply (bs_join _ _)
      isplitl [Hsx]; · iexact Hsx
      iexact Hc
    isplitl [HE]; · iexact HE
    iexact Hbat
  iexact HO

/-! ## A step's transfers -/

/-- A step once its slot is ready and its exchange waited for. -/
theorem wp_core (i : grid0.Coords) (t : Fin 64) (ht : (i 0).val = t.val)
    (arg3 : Memref sig .tc .vmem S1x64x2048 .f32) (arg4 : Memref sig .tc .vmem S64x2048 .f32) (arg5 : Memref sig .tc .vmem S1x2048 .f32)
    (Q : PUnit → sProp 𝕄) :
    iprop(invs m K ∗ (owns (c : Thread nD τ) arg3 fullShare (partB m c (blk (yc c) t.val)) ∗ owns (c : Thread nD τ) arg4 fullShare (residB m c (blk (yc c) t.val))
          ∗ owns (c : Thread nD τ) arg5 fullShare (gam m c))
        ∗ (atPos ER (cell c (.ar .rx t)) 1 ∅ 0 ∗ slotPt c t.val (landV m c)) ∗ FreshB c t ∗ FreshP c t ∗ Ready c t ∗ owe c (owesY c t.val))
      ⊢ iprop((((owns (c : Thread nD τ) arg3 fullShare (partB m c (blk (yc c) t.val)) ∗ owns (c : Thread nD τ) arg4 fullShare (residB m c (blk (yc c) t.val))
          ∗ owns (c : Thread nD τ) arg5 fullShare (gam m c)) ∗ Fly m c t ∗ owe c (owesY c (t.val + 1))) -∗ Q ⟨⟩)
        -∗ WP c (rows (F := F) i (Memref.whole cc0_scratch0) (Memref.whole cc0_scratch1) arg3 arg4 arg5) (fun _ =>
            WP c (startLc i c (Memref.whole main_v7) (Memref.whole cc0_scratch1) cc0_scratch6) (fun _ =>
            WP c (startSy i c (Memref.whole main_v7) (Memref.whole cc0_scratch1) cc0_scratch4 cc0_scratch5) Q))) := by
  unfold FreshB FreshP Ready Fly
  rw [owesY_step c t]
  iintro ⟨#HI, ⟨H3, H4, H5⟩, ⟨Hrx, H7⟩, ⟨Hsy, Hr, Ht, Ht', HtL, HL⟩, ⟨HY, Hr'⟩, ⟨H8, HatL, HrL⟩, HO⟩ Hk
  iapply (wp_rows m c i t ht arg3 arg4 arg5 _) $$ [H3 H4 H5 H7 H8]
  · isplitl [H3]; · iexact H3
    isplitl [H4]; · iexact H4
    isplitl [H5]; · iexact H5
    isplitl [H7]; · iexact H7
    iexact H8
  iintro ⟨H3, H4, H5, H7, H8⟩
  ihave H8 := (pointsTo_share (PosShare.mem_left_op_right fullShare)).1 $$ H8
  icases H8 with ⟨Hl, Hrr⟩
  iapply (wp_startLc m K c i t ht _) $$ [Hl HL HtL HrL]
  · isplitr; · iexact HI
    isplitl [Hl]; · iexact Hl
    isplitl [HL]; · iexact HL
    isplitl [HtL]; · iexact HtL
    iexact HrL
  iintro HcL
  iapply (wp_startSy m K c i t ht (owesY c (t.val + 1)) _) $$ [Hrr HY HO Ht Hr Ht' Hr']
  · isplitr; · iexact HI
    isplitl [Hrr]; · iexact Hrr
    isplitl [HY]; · iexact HY
    isplitl [HO]; · iexact HO
    isplitl [Ht]; · iexact Ht
    isplitl [Hr]; · iexact Hr
    isplitl [Ht']; · iexact Ht'
    iexact Hr'
  iintro ⟨HcY, HO⟩
  iapply Hk
  isplitl [H3 H4 H5]
  · isplitl [H3]; · iexact H3
    isplitl [H4]; · iexact H4
    iexact H5
  isplitl [Hrx H7 Hsy HcY HatL HcL]
  · isplitl [Hrx H7]
    · isplitl [Hrx]; · iexact Hrx
      iexact H7
    isplitl [Hsy HcY]
    · isplitl [Hsy]; · iexact Hsy
      iexact HcY
    isplitl [HatL]; · iexact HatL
    iexact HcL
  iexact HO

/-- The waits for a slot's block `j` to have left: the block is done, and its slot ready for step `j + 2`. -/
theorem wp_reuse (o : Fin 1 → Nat) (ho) (q hq) (o' : Fin 1 → Nat) (ho') (q' hq') (j : Fin 64) (e : o = ![j.val]) (e' : o' = ![(par j).val])
    (n : Nat) (Q : PUnit → sProp 𝕄) :
    iprop(invs m K ∗ levAts L lv ∗ Fly m c j ∗ owe c (owesY c n))
      ⊢ iprop(((Done m c j ∗ (outAny c (par j).val ∗ atPos ER (cell c (.lc (par j))) (j.val / 2 + 1) ∅ 0 ∗ reached ER (cell c (.lc (par j))) (j.val / 2 + 1))
            ∗ owe c (owesY c n)) -∗ Q ⟨⟩)
        -∗ WP c (waitSy (F := F) (Memref.whole main_v7) (Memref.whole cc0_scratch1) cc0_scratch4 o ho q hq) (fun _ =>
            WP c (waitLc (Memref.whole main_v7) (Memref.whole cc0_scratch1) cc0_scratch6 o' ho' q' hq') Q)) := by
  have hj := j.isLt
  have hb : 2 * (j.val / 2) + (par j).val = j.val := by unfold par; dsimp only; omega
  have hp : payK m c (.lc (par j)) (j.val / 2) true
      = iprop(resPt c (blk (yc c) j.val) (resV m c) ∗ outPt c (par j).val fullShare.left (outV m c (blk (yc c) j.val))) := by
    show iprop(resPt c (blk (yc c) (2 * (j.val / 2) + (par j).val)) (resV m c)
      ∗ outPt c (par j).val fullShare.left (outV m c (blk (yc c) (2 * (j.val / 2) + (par j).val)))) = _
    rw [hb]
  have hs : payK m c (.ar .sy j) 0 true = outPt c (par j).val fullShare.right (outV m c (blk (yc c) j.val)) := rfl
  unfold Fly Done
  iintro ⟨#HI, #Hl, ⟨Hrx, ⟨HatY, HcY⟩, ⟨HatL, HcL⟩⟩, HO⟩ Hk
  iapply (wp_waitSy m K c n o ho q hq j e _) $$ [HatY HcY HO]
  · isplitr; · iexact HI
    isplitr; · iexact Hl
    isplitl [HatY]; · iexact HatY
    isplitl [HcY]; · iexact HcY
    iexact HO
  iintro ⟨HO, HatY, -, HpY⟩
  iapply (wp_waitLc m K c n o' ho' q' hq' (par j) e' (j.val / 2) (by omega) _) $$ [HatL HcL HO]
  · isplitr; · iexact HI
    isplitr; · iexact Hl
    isplitl [HatL]; · iexact HatL
    isplitl [HcL]; · iexact HcL
    iexact HO
  iintro ⟨HO, HatL, HrL, Hp⟩
  ihave Hp := (Entails.of_eq hp) $$ Hp
  icases Hp with ⟨HR, HpL⟩
  ihave HpY := (Entails.of_eq hs) $$ HpY
  iapply Hk
  isplitl [Hrx HatY HR]
  · isplitl [Hrx]; · iexact Hrx
    isplitl [HatY]; · iexact HatY
    iexact HR
  isplitl [HpL HpY HatL HrL]
  · isplitl [HpL HpY]
    · iexists _
      iapply (pointsTo_share (PosShare.mem_left_op_right fullShare)).2
      isplitl [HpL]; · iexact HpL
      iexact HpY
    isplitl [HatL]; · iexact HatL
    iexact HrL
  iexact HO

end

end Cert.KernelIdeal.Hand

end
-- ==== Proof.Run.lean ====
/- The kernel's ending and its body, step by step. -/
module

public import proofs.«01_k».proof.Proof.Inv

@[expose] public section

noncomputable section

namespace Cert.KernelIdeal.Hand

open Idealize.ShloMosaic Idealize.ShloMosaic.TcCoe Cert.KernelIdeal.Gen
open Idealize.SL Idealize.SL.RA Idealize.SL.BI
open scoped Idealize.SL.BI
open Idealize.SL.BI.BIBase Idealize.SL.BI.Laws Idealize.SL.ProofMode
open Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

section
variable (c : Dev nD) (K : GSem nD τ sig → ℕ)

/-! ## Closing the counters -/

/-- A counter past its last round is zero again. -/
theorem close_one (k : CK) (r : ℕ) (hr : lastK k ≤ r) :
    iprop(invs m K ∗ atPos ER (cell c k) r ∅ 0) ⊢ iprop(|={Set.univ}=> semVal (cell c k) 0) := by
  iintro ⟨#HI, Hat⟩
  iapply (Rounds.cell_close ER (Rd m) (κ := K (cell c k)) (Set.mem_univ _) id (R := r) fun r' h => duties_past m c k r' (hr.trans h))
  isplitr; · iapply (inv_at m K c k); iexact HI
  iexact Hat

/-- An array's counters past their last round are zero again. -/
theorem close_arr (a : Arr) :
    iprop(invs m K ∗ bigSep Finset.univ fun j : Fin 64 => atPos ER (cell c (.ar a j)) 1 ∅ 0)
      ⊢ iprop(|={Set.univ}=> bigSep Finset.univ fun j : Fin 64 => semVal (cell c (.ar a j)) 0) :=
  (bigSep_with_persistent fun j _ => close_one m c K (.ar a j) 1 le_rfl).trans (bigSep_fupd Finset.univ _)

/-- All of a device's counters. -/
theorem close_all :
    iprop(invs m K ∗ (bigSep Finset.univ (fun j : Fin 64 => atPos ER (cell c (.ar .sx j)) 1 ∅ 0) ∗ bigSep Finset.univ (fun j : Fin 64 => atPos ER (cell c (.ar .rx j)) 1 ∅ 0)
        ∗ bigSep Finset.univ (fun j : Fin 64 => atPos ER (cell c (.ar .sy j)) 1 ∅ 0) ∗ bigSep Finset.univ (fun j : Fin 64 => atPos ER (cell c (.ar .ry j)) 1 ∅ 0))
        ∗ atPos ER (cell c (.lc 0)) 32 ∅ 0 ∗ atPos ER (cell c (.lc 1)) 32 ∅ 0 ∗ atPos ER (cell c .bar) 1 ∅ 0)
      ⊢ iprop(|={Set.univ}=> (bigSep Finset.univ (fun d : DK => (semVal (cell c (kD d)) 0 : sProp 𝕄)) ∗ semVal (cell c .bar) 0)) := by
  rw [bs_DK]
  iintro ⟨#HI, ⟨H1, H2, H3, H4⟩, H5, H6, H7⟩
  imod (close_arr m c K .sx) $$ [H1] with H1
  · isplitr; · iexact HI
    iexact H1
  imod (close_arr m c K .rx) $$ [H2] with H2
  · isplitr; · iexact HI
    iexact H2
  imod (close_arr m c K .sy) $$ [H3] with H3
  · isplitr; · iexact HI
    iexact H3
  imod (close_arr m c K .ry) $$ [H4] with H4
  · isplitr; · iexact HI
    iexact H4
  imod (close_one m c K (.lc 0) 32 le_rfl) $$ [H5] with H5
  · isplitr; · iexact HI
    iexact H5
  imod (close_one m c K (.lc 1) 32 le_rfl) $$ [H6] with H6
  · isplitr; · iexact HI
    iexact H6
  imod (close_one m c K .bar 1 le_rfl) $$ [H7] with H7
  · isplitr; · iexact HI
    iexact H7
  imodintro
  isplitr [H7]
  · isplitl [H1 H2 H3 H4]
    · isplitl [H1]; · iexact H1
      isplitl [H2]; · iexact H2
      isplitl [H3]; · iexact H3
      iexact H4
    isplitl [H5]; · iexact H5
    iexact H6
  iexact H7

/-! ## The ending -/

/-- After the last step's transfers: every step done but the last two. -/
theorem St_last : bigSep Finset.univ (St m c 64)
    = iprop(Fly m c 62 ∗ Fly m c 63 ∗ bigSep ((Finset.univ.erase 62).erase 63) (Done m c)) := by
  rw [bs_at (Finset.mem_univ 62), bs_at (s := Finset.univ.erase 62) (i := 63) (by decide)]
  have h2 : bigSep ((Finset.univ.erase 62).erase 63) (St m c 64) = bigSep ((Finset.univ.erase 62).erase 63) (Done m c) :=
    bigSep_congr fun j hj => by
      rw [Finset.mem_erase, Finset.mem_erase] at hj
      have h1 : j.val ≠ 63 := fun h => hj.1 (Fin.ext h)
      have h2 : j.val ≠ 62 := fun h => hj.2.1 (Fin.ext h)
      have := j.isLt
      unfold St
      rw [if_neg (by omega), if_neg (by omega)]
  rw [h2]
  rfl
theorem Done_all : bigSep Finset.univ (Done m c) = iprop(Done m c 62 ∗ Done m c 63 ∗ bigSep ((Finset.univ.erase 62).erase 63) (Done m c)) := by
  rw [bs_at (Finset.mem_univ 62), bs_at (s := Finset.univ.erase 62) (i := 63) (by decide)]

/-- The ending: every wait still outstanding, and the counters closed. -/
theorem wp_ending (i : grid0.Coords) (h3 : k0_cond3 i = 1#1) (Q : PUnit → sProp 𝕄) :
    iprop(Inv m c K 64 ∗ owe c (owesY c 64))
      ⊢ iprop(((End m c ∗ owe c (owesY c 64)) -∗ Q ⟨⟩)
        -∗ WP c (ending (F := F) i c (Memref.whole main_arg0) (Memref.whole main_v7) (Memref.whole cc0_scratch0) (Memref.whole cc0_scratch1)
            cc0_scratch2 cc0_scratch4 cc0_scratch5 cc0_scratch6 h3) Q) := by
  have hsx : ∀ (j : Fin 64) (Q : PUnit → sProp 𝕄),
      iprop((invs m K ∗ levAts L lv) ∗ EndX c j ∗ owe c (owesY c 64))
        ⊢ iprop((((atPos ER (cell c (.ar .sx j)) 1 ∅ 0 ∗ srcPt m c (blk (yc c) j.val)) ∗ owe c (owesY c 64)) -∗ Q ⟨⟩)
          -∗ WP c (waitSx (F := F) i c (Memref.whole main_arg0) (Memref.whole cc0_scratch0) cc0_scratch2 h3 j) Q) := by
    intro j Q
    have hp : payK m c (.ar .sx j) 0 true = srcPt m c (blk (yc c) j.val) := rfl
    unfold EndX
    iintro ⟨⟨#HI, #Hl⟩, ⟨Hat, Hc⟩, HO⟩ Hk
    iapply (wp_waitSx m K c i 64 h3 j Q) $$ [Hat Hc HO]
    · isplitr; · iexact HI
      isplitr; · iexact Hl
      isplitl [Hat]; · iexact Hat
      isplitl [Hc]; · iexact Hc
      iexact HO
    iintro ⟨HO, Hat, -, Hp⟩
    ihave Hp := (Entails.of_eq hp) $$ Hp
    iapply Hk
    isplitr [HO]
    · isplitl [Hat]; · iexact Hat
      iexact Hp
    iexact HO
  have hry : ∀ (j : Fin 64) (Q : PUnit → sProp 𝕄),
      iprop((invs m K ∗ levAts L lv) ∗ EndY c j ∗ owe c (owesY c 64))
        ⊢ iprop((((atPos ER (cell c (.ar .ry j)) 1 ∅ 0 ∗ resPt c (blk (1 - yc c) j.val) (resV m c)) ∗ owe c (owesY c 64)) -∗ Q ⟨⟩)
          -∗ WP c (waitRy (F := F) i c (Memref.whole main_v7) (Memref.whole cc0_scratch1) cc0_scratch5 h3 j) Q) := by
    intro j Q
    have hp : payK m c (.ar .ry j) 0 true = resPt c (blk (1 - yc c) j.val) (resV m c) := rfl
    unfold EndY
    iintro ⟨⟨#HI, #Hl⟩, ⟨Hat, Hc⟩, HO⟩ Hk
    iapply (wp_waitRy m K c i h3 j Q) $$ [Hat Hc HO]
    · isplitr; · iexact HI
      isplitr; · iexact Hl
      isplitl [Hat]; · iexact Hat
      isplitl [Hc]; · iexact Hc
      iexact HO
    iintro ⟨HO, Hat, -, Hp⟩
    ihave Hp := (Entails.of_eq hp) $$ Hp
    iapply Hk
    isplitr [HO]
    · isplitl [Hat]; · iexact Hat
      iexact Hp
    iexact HO
  unfold Inv ending End
  rw [St_last]
  simp only [WP, wp_bind]
  iintro ⟨⟨⟨#HI, #Hl⟩, ⟨H62, H63, HD⟩, HX, HY, Hbar⟩, HO⟩ Hk
  iapply (wp_loop c _ iprop(invs m K ∗ levAts L lv) (EndX c) _ (fun _ => owe c (owesY c 64)) hsx _) $$ [HX HO]
  · isplitr
    · isplitr; · iexact HI
      iexact Hl
    isplitl [HX]; · iexact HX
    iexact HO
  iintro ⟨HX, HO⟩
  iapply (wp_reuse m c K ![62] inb_S64_S1_62 ![0, 0, 0] inb_S2x64x2048_S1x64x2048_0_0_0 ![0] inb_S2_S1_0 ![0, 0, 0] inb_S2x64x2048_S1x64x2048_0_0_0
    62 rfl rfl 64 _) $$ [H62 HO]
  · isplitr; · iexact HI
    isplitr; · iexact Hl
    isplitl [H62]; · iexact H62
    iexact HO
  iintro ⟨H62, ⟨Ho0, Ha0, -⟩, HO⟩
  iapply (wp_reuse m c K ![63] inb_S64_S1_63 ![1, 0, 0] inb_S2x64x2048_S1x64x2048_1_0_0 ![1] inb_S2_S1_1 ![1, 0, 0] inb_S2x64x2048_S1x64x2048_1_0_0
    63 rfl rfl 64 _) $$ [H63 HO]
  · isplitr; · iexact HI
    isplitr; · iexact Hl
    isplitl [H63]; · iexact H63
    iexact HO
  iintro ⟨H63, ⟨Ho1, Ha1, -⟩, HO⟩
  iapply (wp_fupd (Q := Q))
  iapply (wp_loop c _ iprop(invs m K ∗ levAts L lv) (EndY c) _ (fun _ => owe c (owesY c 64)) hry _) $$ [HY HO]
  · isplitr
    · isplitr; · iexact HI
      iexact Hl
    isplitl [HY]; · iexact HY
    iexact HO
  iintro ⟨HY, HO⟩
  ihave HD := (Entails.of_eq (Done_all m c).symm) $$ [H62 H63 HD]
  · isplitl [H62]; · iexact H62
    isplitl [H63]; · iexact H63
    iexact HD
  unfold Done
  ihave HD := (bs_part (F := F) _ _) $$ HD
  icases HD with ⟨HD, HD'⟩
  ihave HD := (bs_part (F := F) _ _) $$ HD
  ihave HD' := (bs_part (F := F) _ _) $$ HD'
  ihave HX := (bs_part (F := F) _ _) $$ HX
  ihave HY := (bs_part (F := F) _ _) $$ HY
  icases HD with ⟨Hrx, Hslot⟩
  icases HD' with ⟨Hsy, Hres⟩
  icases HX with ⟨Hsx, Hsrc⟩
  icases HY with ⟨Hry, Hres'⟩
  imod (close_all m c K) $$ [Hsx Hrx Hsy Hry Ha0 Ha1 Hbar] with HC
  · isplitr; · iexact HI
    isplitl [Hsx Hrx Hsy Hry]
    · isplitl [Hsx]; · iexact Hsx
      isplitl [Hrx]; · iexact Hrx
      isplitl [Hsy]; · iexact Hsy
      iexact Hry
    isplitl [Ha0]; · iexact Ha0
    isplitl [Ha1]; · iexact Ha1
    iexact Hbar
  imodintro
  iapply Hk
  isplitr [HO]
  · isplitl [HC]; · iexact HC
    isplitl [Hslot]; · iexact Hslot
    isplitl [Ho0 Ho1]
    · isplitl [Ho0]; · iexact Ho0
      iexact Ho1
    isplitl [Hsrc]; · iexact Hsrc
    isplitl [Hres]; · iexact Hres
    iexact Hres'
  iexact HO

/-! ## One step -/

/-- What holds before step `t`. -/
def PhiK (t : Nat) : sProp 𝕄 := if t = 0 then Start m c K else if t = 64 then End m c else Inv m c K t

/-- The opening, on the first step only. -/
theorem wp_first (i : grid0.Coords) (t : Fin 64) (ht : (i 0).val = t.val) (Q : PUnit → sProp 𝕄) :
    iprop(PhiK m c K t.val ∗ owe c (owed c t.val))
      ⊢ iprop(((Inv m c K t.val ∗ owe c (owesY c t.val)) -∗ Q ⟨⟩)
        -∗ WP c (whenC (F := F) (k0_cond1 i = 1#1) fun h1 => opening i c (Memref.whole main_arg0) (Memref.whole cc0_scratch0) cc0_scratch2 cc0_scratch3 h1) Q) := by
  have hlt := t.isLt
  unfold PhiK owed whenC
  by_cases h : k0_cond1 i = 1#1
  · have h0 : t.val = 0 := by rw [← ht]; exact (cond1_iff i).1 h
    rw [dif_pos h, if_pos h0, if_pos h0, h0]
    exact wp_opening m c K i h Q
  · have h0 : t.val ≠ 0 := by rw [← ht]; exact fun e => h ((cond1_iff i).2 e)
    rw [dif_neg h, if_neg h0, if_neg h0, if_neg (by omega)]
    iintro H Hk
    unfold WP
    rw [wp_pure]
    imodintro
    iapply Hk
    iexact H

/-- The ending, on the last step only. -/
theorem wp_last (i : grid0.Coords) (t : Fin 64) (ht : (i 0).val = t.val) (Q : PUnit → sProp 𝕄) :
    iprop(Inv m c K (t.val + 1) ∗ owe c (owesY c (t.val + 1)))
      ⊢ iprop(((PhiK m c K (t.val + 1) ∗ owe c (owed c (t.val + 1))) -∗ Q ⟨⟩)
        -∗ WP c (whenC (F := F) (k0_cond3 i = 1#1) fun h3 => ending i c (Memref.whole main_arg0) (Memref.whole main_v7) (Memref.whole cc0_scratch0) (Memref.whole cc0_scratch1)
            cc0_scratch2 cc0_scratch4 cc0_scratch5 cc0_scratch6 h3) Q) := by
  have hlt := t.isLt
  unfold PhiK owed whenC
  rw [if_neg (Nat.succ_ne_zero _), if_neg (Nat.succ_ne_zero _)]
  by_cases h : k0_cond3 i = 1#1
  · have h0 : t.val = 63 := by rw [← ht]; exact (cond3_iff i).1 h
    rw [dif_pos h, if_pos (by omega), h0]
    exact wp_ending m c K i h Q
  · have h0 : t.val ≠ 63 := by rw [← ht]; exact fun e => h ((cond3_iff i).2 e)
    rw [dif_neg h, if_neg (by omega)]
    iintro H Hk
    unfold WP
    rw [wp_pure]
    imodintro
    iapply Hk
    iexact H

theorem St_self (t : Fin 64) : St m c t.val t = Fresh (F := F) c t := if_pos le_rfl
theorem St_next (t : Fin 64) : St m c (t.val + 1) t = Fly m c t := by
  unfold St
  rw [if_neg (by omega), if_pos (by omega)]
/-- Off a step and the one two before it, the step changes nothing. -/
theorem St_same (t j : Fin 64) (h : j ≠ t) (h2 : j.val + 2 ≠ t.val) : St m c t.val j = St m c (t.val + 1) j := by
  have h' : j.val ≠ t.val := fun e => h (Fin.ext e)
  unfold St
  by_cases h1 : t.val ≤ j.val
  · rw [if_pos h1, if_pos (by omega)]
  · rw [if_neg h1, if_neg (show ¬ (t.val + 1 ≤ j.val) by omega)]
    by_cases h3 : t.val ≤ j.val + 2
    · rw [if_pos h3, if_pos (by omega)]
    · rw [if_neg h3, if_neg (by omega)]

/-- The slot's last block waited for, from the third step on. -/
theorem wp_slot (i : grid0.Coords) (t : Fin 64) (ht : (i 0).val = t.val) (n : ℕ) (Q : PUnit → sProp 𝕄) :
    iprop((invs m K ∗ levAts L lv) ∗ FreshC c t ∗ bigSep (Finset.univ.erase t) (St m c t.val) ∗ owe c (owesY c n))
      ⊢ iprop(((Ready c t ∗ bigSep (Finset.univ.erase t) (St m c (t.val + 1)) ∗ owe c (owesY c n)) -∗ Q ⟨⟩)
        -∗ WP c (whenC (F := F) (k0_cond2 i = 1#1) fun h2 => reuse i (Memref.whole main_v7) (Memref.whole cc0_scratch1) cc0_scratch4 cc0_scratch6 h2) Q) := by
  have hlt := t.isLt
  unfold FreshC whenC
  by_cases h : k0_cond2 i = 1#1
  · have h0 : 2 ≤ t.val := by rw [← ht]; exact (cond2_iff i).1 h
    obtain ⟨j, hj⟩ : ∃ j : Fin 64, j.val + 2 = t.val := ⟨⟨t.val - 2, by omega⟩, by dsimp only; omega⟩
    have hjt : j ∈ Finset.univ.erase t := Finset.mem_erase.2 ⟨fun e => by rw [e] at hj; omega, Finset.mem_univ _⟩
    have hF : St m c t.val j = Fly m c j := by
      unfold St
      rw [if_neg (by omega), if_pos (by omega)]
    have hD : St m c (t.val + 1) j = Done m c j := by
      unfold St
      rw [if_neg (by omega), if_neg (by omega)]
    have hrest : bigSep ((Finset.univ.erase t).erase j) (St m c t.val) = bigSep ((Finset.univ.erase t).erase j) (St m c (t.val + 1)) :=
      bigSep_congr fun a ha => by
        rw [Finset.mem_erase, Finset.mem_erase] at ha
        exact St_same m c t a ha.2.1 fun e => ha.1 (Fin.ext (by omega))
    have hpar : par j = par t := Fin.ext (by unfold par; dsimp only; omega)
    have hdiv : j.val / 2 + 1 = t.val / 2 := by omega
    rw [dif_pos h, if_neg (by omega), bs_at hjt (St m c t.val), bs_at hjt (St m c (t.val + 1)), hF, hD, hrest]
    unfold reuse Ready
    simp only [WP, wp_bind]
    rw [← hpar, ← hdiv]
    iintro ⟨⟨#HI, #Hl⟩, -, ⟨Hj, Hr⟩, HO⟩ Hk
    iapply (wp_reuse m c K (k0_off5 i) (k0_off5_inb i h) (k0_off6 i) (k0_off6_inb i h) (k0_off7 i) (k0_off7_inb i h) (k0_off6 i) (k0_off6_inb i h)
      j (by rw [off5_eq i (by omega), ht, ← hj, Nat.add_sub_cancel]) (by rw [k0_off7_eq, ht, hpar]; rfl) n Q) $$ [Hj HO]
    · isplitr; · iexact HI
      isplitr; · iexact Hl
      isplitl [Hj]; · iexact Hj
      iexact HO
    iintro ⟨HD, HR, HO⟩
    iapply Hk
    isplitl [HR]; · iexact HR
    isplitr [HO]
    · isplitl [HD]; · iexact HD
      iexact Hr
    iexact HO
  · have h0 : t.val < 2 := by rw [← ht]; exact Nat.lt_of_not_le fun e => h ((cond2_iff i).2 e)
    have hrest : bigSep (Finset.univ.erase t) (St m c t.val) = bigSep (Finset.univ.erase t) (St m c (t.val + 1)) :=
      bigSep_congr fun a ha => St_same m c t a (Finset.mem_erase.1 ha).1 fun e => by omega
    rw [dif_neg h, if_pos h0, hrest]
    iintro ⟨-, H⟩ Hk
    unfold WP
    rw [wp_pure]
    imodintro
    iapply Hk
    iexact H

/-- **One step of the kernel**, on any device. -/
theorem body_wp (i : grid0.Coords) (t : Fin 64) (ht : (i 0).val = t.val)
    (arg3 : Memref sig .tc .vmem S1x64x2048 .f32) (arg4 : Memref sig .tc .vmem S64x2048 .f32) (arg5 : Memref sig .tc .vmem S1x2048 .f32)
    (Q : PUnit → sProp 𝕄) :
    iprop(PhiK m c K t.val ∗ owe c (owed c t.val)
        ∗ (owns (c : Thread nD τ) arg3 fullShare (partB m c (blk (yc c) t.val)) ∗ owns (c : Thread nD τ) arg4 fullShare (residB m c (blk (yc c) t.val))
          ∗ owns (c : Thread nD τ) arg5 fullShare (gam m c)))
      ⊢ iprop(((PhiK m c K (t.val + 1) ∗ owe c (owed c (t.val + 1))
          ∗ (owns (c : Thread nD τ) arg3 fullShare (partB m c (blk (yc c) t.val)) ∗ owns (c : Thread nD τ) arg4 fullShare (residB m c (blk (yc c) t.val))
            ∗ owns (c : Thread nD τ) arg5 fullShare (gam m c))) -∗ Q ⟨⟩)
        -∗ WP c (bodyC (F := F) i (Memref.whole main_arg0) (Memref.whole main_v7) (Memref.whole cc0_scratch0) (Memref.whole cc0_scratch1)
            cc0_scratch2 cc0_scratch3 cc0_scratch4 cc0_scratch5 cc0_scratch6 arg3 arg4 arg5) Q) := by
  have hp : payK m c (.ar .rx t) 0 true = slotPt c t.val (landV m c) := rfl
  rw [bodyC_rows]
  unfold WP
  rw [wp_bind, Prog.lift, wp_deviceId, wp_ret]
  simp only [fupd_wp_eq, wp_bind]
  iintro ⟨HP, HO, Hown⟩ Hk
  iapply (wp_first m c K i t ht _) $$ [HP HO]
  · isplitl [HP]; · iexact HP
    iexact HO
  iintro ⟨HInv, HO⟩
  unfold Inv
  icases HInv with ⟨⟨#HI, #Hl⟩, HSt, HX, HY, Hbar⟩
  ihave HSt := (Entails.of_eq (bs_at (Finset.mem_univ t) (St m c t.val))) $$ HSt
  icases HSt with ⟨Ht, HSt⟩
  ihave Ht := (Entails.of_eq (St_self m c t)) $$ Ht
  unfold Fresh FreshA
  icases Ht with ⟨⟨Hat, Hc⟩, HB, HPc, HC⟩
  iapply (wp_waitRx m K c i t t.val ht _) $$ [Hat Hc HO]
  · isplitr; · iexact HI
    isplitr; · iexact Hl
    isplitl [Hat]; · iexact Hat
    isplitl [Hc]; · iexact Hc
    iexact HO
  iintro ⟨HO, Hat, -, Hp⟩
  ihave Hp := (Entails.of_eq hp) $$ Hp
  iapply (wp_slot m c K i t ht t.val _) $$ [HC HSt HO]
  · isplitr
    · isplitr; · iexact HI
      iexact Hl
    isplitl [HC]; · iexact HC
    isplitl [HSt]; · iexact HSt
    iexact HO
  iintro ⟨HR, HSt, HO⟩
  iapply (wp_core m c K i t ht arg3 arg4 arg5 _) $$ [Hown Hat Hp HB HPc HR HO]
  · isplitr; · iexact HI
    isplitl [Hown]; · iexact Hown
    isplitl [Hat Hp]
    · isplitl [Hat]; · iexact Hat
      iexact Hp
    isplitl [HB]; · iexact HB
    isplitl [HPc]; · iexact HPc
    isplitl [HR]; · iexact HR
    iexact HO
  iintro ⟨Hown, HF, HO⟩
  iapply (wp_last m c K i t ht _) $$ [HF HSt HX HY Hbar HO]
  · isplitr [HO]
    · unfold Inv
      isplitr
      · isplitr; · iexact HI
        iexact Hl
      isplitl [HF HSt]
      · iapply (Entails.of_eq (bs_at (Finset.mem_univ t) (St m c (t.val + 1))).symm)
        isplitl [HF]
        · iapply (Entails.of_eq (St_next m c t).symm)
          iexact HF
        iexact HSt
      isplitl [HX]; · iexact HX
      isplitl [HY]; · iexact HY
      iexact Hbar
    iexact HO
  iintro ⟨HP, HO⟩
  iapply Hk
  isplitl [HP]; · iexact HP
  isplitl [HO]; · iexact HO
  iexact Hown

end

end Cert.KernelIdeal.Hand

end
-- ==== Proof.Tbl.lean ====
/- The prefetched table and what the kernel's index maps give at it. -/
module

public import proofs.«01_k».proof.Proof.Run
public import proofs.«01_k».proof.Proof.Gen.KernelIdeal.Launch
public import proofs.«01_k».proof.Proof.Gen.KernelIdeal.Regions

@[expose] public section

noncomputable section

namespace Cert.KernelIdeal.Hand

open Idealize.ShloMosaic Idealize.ShloMosaic.TcCoe Cert.KernelIdeal.Gen Idealize.ShloMosaic.ValueIdx

variable {F : FTy → Type} [FloatOps F]
variable (m : (ℓ : Loc nD τ sig) → Buf (Elt F) ℓ)

/-- The prefetched table of a device: its coordinate along the second axis. -/
def tbl (c : Dev nD) : pre0.Contents (Elt F) := fun | 0 => (fun _ => BitVec.ofNat 32 (yc c))

section
variable (c : Dev nD)

theorem coords_val (t : Fin grid0.N) : (grid0.coords t 0).val = t.val := by revert t; decide

/-- The word the index maps compute: the row block's number. -/
theorem word_blk (y k : Nat) (hy : y < 2) (hk : k < 64) :
    (Scalar.addi (Scalar.muli (BitVec.ofNat 32 y) 64#32) (BitVec.ofNat 32 k)).toNat = blk y k := by
  unfold Scalar.addi Scalar.muli IntOp.addi IntOp.muli blk
  rw [BitVec.toNat_add, BitVec.toNat_mul, BitVec.toNat_ofNat, BitVec.toNat_ofNat, BitVec.toNat_ofNat]
  omega

theorem tr1_tbl (i : grid0.Coords) : cc0_transform_1 inb_S1_S1_0 numel1_S1 (tbl (F := F) c) i = ![0, blk (yc c) (i 0).val, 0] := by
  show ![(0#32).toNat, (Scalar.addi (Scalar.muli (BitVec.ofNat 32 (yc c)) 64#32) (BitVec.ofNat 32 (i 0).val)).toNat, (0#32).toNat] = _
  rw [word_blk _ _ (yc_lt c) (i 0).isLt]; rfl

theorem tr2_tbl (i : grid0.Coords) : cc0_transform_2 inb_S1_S1_0 numel1_S1 (tbl (F := F) c) i = ![blk (yc c) (i 0).val, 0] := by
  show ![(Scalar.addi (Scalar.muli (BitVec.ofNat 32 (yc c)) 64#32) (BitVec.ofNat 32 (i 0).val)).toNat, (0#32).toNat] = _
  rw [word_blk _ _ (yc_lt c) (i 0).isLt]; rfl

theorem blk_lt (i : grid0.Coords) : blk (yc c) (i 0).val < 128 := by
  have h1 := yc_lt c
  have h2 : (i 0).val < 64 := (i 0).isLt
  unfold blk; omega

/-- The table is admissible. -/
theorem ok_tbl : ok0 (tbl (F := F) c) := by
  refine ⟨fun i => ⟨fun a => ?_, Or.inl rfl⟩, fun i => ⟨fun a => ?_, Or.inl rfl⟩⟩
  · have h := blk_lt c i
    rw [tr1_tbl]
    fin_cases a
    · show (0 + 1) * 1 ≤ 1; decide
    · show (blk (yc c) (i 0).val + 1) * 64 ≤ 8192; omega
    · show (0 + 1) * 2048 ≤ 2048; decide
  · have h := blk_lt c i
    rw [tr2_tbl]
    fin_cases a
    · show (blk (yc c) (i 0).val + 1) * 64 ≤ 8192; omega
    · show (0 + 1) * 2048 ≤ 2048; decide

/-- Each device's admissible table. -/
def adm : Dev nD → (p : Fin 1) → (pcfgs (F := F) p).Adm := fun c _ => ⟨tbl c, ok_tbl c⟩

/-! ## The windows at the table -/

theorem index_0 (t : Fin grid0.N) : (win0 (adm (F := F) c 0) 0).index t = ![0, blk (yc c) t.val, 0] := by
  show cc0_transform_1 inb_S1_S1_0 numel1_S1 (tbl (F := F) c) (grid0.coords t) = _
  rw [tr1_tbl, coords_val]

theorem index_1 (t : Fin grid0.N) : (win0 (adm (F := F) c 0) 1).index t = ![blk (yc c) t.val, 0] := by
  show cc0_transform_2 inb_S1_S1_0 numel1_S1 (tbl (F := F) c) (grid0.coords t) = _
  rw [tr2_tbl, coords_val]

theorem index_2 (t : Fin grid0.N) : (win0 (adm (F := F) c 0) 2).index t = ![0, 0] := rfl

theorem fetch_0 (t : Fin grid0.N) : (win0 (adm (F := F) c 0) 0).fetch t = true := by
  unfold Pipeline.Window.fetch
  rw [Bool.and_eq_true]
  refine ⟨rfl, ?_⟩
  by_cases h : t.val = 0
  · simp [h]
  · rw [Bool.or_eq_true]
    refine Or.inr (decide_eq_true ⟨Nat.pos_of_ne_zero h, fun he => ?_⟩)
    rw [index_0, index_0] at he
    have := congrFun he 1
    simp only [blk, Matrix.cons_val_one, Matrix.cons_val_zero] at this
    omega

theorem fetch_1 (t : Fin grid0.N) : (win0 (adm (F := F) c 0) 1).fetch t = true := by
  unfold Pipeline.Window.fetch
  rw [Bool.and_eq_true]
  refine ⟨rfl, ?_⟩
  by_cases h : t.val = 0
  · simp [h]
  · rw [Bool.or_eq_true]
    refine Or.inr (decide_eq_true ⟨Nat.pos_of_ne_zero h, fun he => ?_⟩)
    rw [index_1, index_1] at he
    have := congrFun he 0
    simp only [blk, Matrix.cons_val_zero] at this
    omega

theorem fetch_2 (t : Fin grid0.N) (h : t.val ≠ 0) : (win0 (adm (F := F) c 0) 2).fetch t = false := by
  unfold Pipeline.Window.fetch
  rw [Bool.and_eq_false_iff]
  refine Or.inr ?_
  rw [Bool.or_eq_false_iff]
  refine ⟨decide_eq_false h, decide_eq_false fun ⟨_, hne⟩ => hne ?_⟩
  rw [index_2, index_2]

theorem fetch_2_zero (t : Fin grid0.N) (h : t.val = 0) : (win0 (adm (F := F) c 0) 2).fetch t = true := by
  unfold Pipeline.Window.fetch
  rw [Bool.and_eq_true]
  exact ⟨rfl, by simp [h]⟩

theorem flush_2 (t : Fin grid0.N) : (win0 (adm (F := F) c 0) 2).flush t = false := rfl

/-! ## The host's operations before the kernel -/

/-- The host's operations make the scale's row. -/
theorem V1_gam : (V1 m c main_v1 : Vec F S1x2048 .f32) = gam m c := by
  have h : (V1 m c main_v1 : Vec F S1x2048 .f32)
      = shapeCast S1x2048 (m ((c : Thread nD τ).loc main_arg2) : Vec F S2048 .f32) shapeCasts_S2048_S1x2048 := by
    show StableHlo.after (hostOps0 c) (V0 m c) (Proc.devRef .tc main_v1) = _
    unfold hostOps0
    after_results
    rfl
  rw [h]
  funext i
  rw [show i = ix2 (i 0 : Fin 1) (i 1 : Fin 2048) from by funext a; fin_cases a <;> rfl]
  exact shapeCast_a_1a_apply _ _ _ _

/-- The host's operations make the table: the device's number halved leaves its coordinate. -/
theorem V1_tbl : (V1 m c main_v6 : Vec F S1 .i32) = tbl (F := F) c 0 := by
  have h : (V1 m c main_v6 : Vec F S1 .i32)
      = shapeCast S1 (Host.remui (Host.divui (constantI S_ 32 (Dev.word c)) (constantI S_ 32 1#32)) (constantI S_ 32 2#32) : IVec S_ 32) shapeCasts_S_S1 := by
    show StableHlo.after (hostOps0 c) (V0 m c) (Proc.devRef .tc main_v6) = _
    unfold hostOps0
    after_results
    rfl
  rw [h]
  funext i
  show IntOp.remui .host (IntOp.divui .host (Dev.word c) 1#32) 2#32 = BitVec.ofNat 32 (yc c)
  clear h
  revert c; decide

end

end Cert.KernelIdeal.Hand
end
-- ==== Proof.Dat.lean ====
/- The pipeline's data on each device, and the kernel's body at every step. -/
module

public import proofs.«01_k».proof.Proof.Tbl

@[expose] public section

noncomputable section

namespace Cert.KernelIdeal.Hand

open Idealize.ShloMosaic Idealize.ShloMosaic.TcCoe Cert.KernelIdeal.Gen Idealize.ShloMosaic.ValueIdx
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat pinD)

variable {F : FTy → Type} [FloatOps F]

local notation "𝕄" => MT nD τ sig Unit (Elt F) ℕ UU ℕ

variable (m : (ℓ : Loc nD τ sig) → Buf (Elt F) ℓ)

/-- The table, held whole by the pipeline. -/
def tblHeld (c : Dev nD) : sProp 𝕄 := Pipeline.prefHeld pre0 c (fun _ => fullShare) (tbl c)

/-- What holds before step `t`: the protocol's state under some names of its invariants, and the table. -/
def PhiT (c : Dev nD) (t : Nat) : sProp 𝕄 := iprop((∃ K, PhiK m c K t) ∗ tblHeld c)

/-- The pipeline's data on a device: the arrays as the host's operations leave them, every window left as fetched,
    half of the first window's array (the exchanges read the other half). -/
def pdats : (p : Fin 1) → (c : Dev nD) → Dat τ (Elt F) Unit ℕ UU ℕ (pinD (pcfgs (F := F)) adm c p) c
  | ⟨0, _⟩, c => {
    A := fun w => V1 m c (Pipeline.arrRef spec0 w)
    after := fun w t => match w with
      | 0 => partB m c (blk (yc c) t.val)
      | 1 => residB m c (blk (yc c) t.val)
      | 2 => gam m c
    Φ := fun t => PhiT m c t.val
    q := fun w => if w.val = 0 then fullShare.left else fullShare
    owed := fun t => owed c t.val }
  | ⟨n + 1, h⟩, _ => absurd h (Nat.not_lt.2 (Nat.le_add_left _ _))

section
variable (c : Dev nD)

/-- What each window's fetch brings: the device's row block of the partial sums and of the residual, and the scale. -/
theorem blockOf_0 (t : Fin grid0.N) : (pdats m 0 c).blockOf 0 t = partB m c (blk (yc c) t.val) := by
  have hA : (V1 m c main_arg0 : Vec F S1x8192x2048 .f32) = argP m c := V1_of m c main_arg0 (by decide)
  have hb := blk_lt c (grid0.coords t)
  rw [coords_val] at hb
  refine funext fun (y : S1x64x2048.Idx) => ?_
  show (V1 m c main_arg0 : Vec F S1x8192x2048 .f32) (((win0 (adm (F := F) c 0) 0).blk t).view.emb y) = partB m c (blk (yc c) t.val) y
  rw [hA]
  unfold partB
  refine congrArg (argP m c) (funext fun a => Fin.ext ?_)
  rw [show ((((win0 (adm (F := F) c 0) 0).blk t).view.emb y) a).val = (win0 (adm (F := F) c 0) 0).index t a * S1x64x2048.size a + 1 * (y a).val from rfl]
  rw [index_0]
  have h1 : (y 1).val < 64 := (y 1).isLt
  fin_cases a
  · show 0 * 1 + 1 * (y 0).val = (y 0).val; omega
  · show blk (yc c) t.val * 64 + 1 * (y 1).val = (64 * blk (yc c) t.val + (y 1).val) % 8192; omega
  · show 0 * 2048 + 1 * (y 2).val = (y 2).val; omega

theorem blockOf_1 (t : Fin grid0.N) : (pdats m 0 c).blockOf 1 t = residB m c (blk (yc c) t.val) := by
  have hA : (V1 m c main_arg1 : Vec F S8192x2048 .f32) = argR m c := V1_of m c main_arg1 (by decide)
  have hb := blk_lt c (grid0.coords t)
  rw [coords_val] at hb
  refine funext fun (y : S64x2048.Idx) => ?_
  show (V1 m c main_arg1 : Vec F S8192x2048 .f32) (((win0 (adm (F := F) c 0) 1).blk t).view.emb y) = residB m c (blk (yc c) t.val) y
  rw [hA]
  unfold residB
  refine congrArg (argR m c) (funext fun a => Fin.ext ?_)
  rw [show ((((win0 (adm (F := F) c 0) 1).blk t).view.emb y) a).val = (win0 (adm (F := F) c 0) 1).index t a * S64x2048.size a + 1 * (y a).val from rfl]
  rw [index_1]
  have h1 : (y 0).val < 64 := (y 0).isLt
  fin_cases a
  · show blk (yc c) t.val * 64 + 1 * (y 0).val = (64 * blk (yc c) t.val + (y 0).val) % 8192; omega
  · show 0 * 2048 + 1 * (y 1).val = (y 1).val; omega

theorem blockOf_2 (t : Fin grid0.N) : (pdats m 0 c).blockOf 2 t = gam m c := by
  have hA := V1_gam m c
  refine funext fun (y : S1x2048.Idx) => ?_
  show (V1 m c main_v1 : Vec F S1x2048 .f32) (((win0 (adm (F := F) c 0) 2).blk t).view.emb y) = gam m c y
  rw [hA]
  refine congrArg (gam m c) (funext fun a => Fin.ext ?_)
  rw [show ((((win0 (adm (F := F) c 0) 2).blk t).view.emb y) a).val = (win0 (adm (F := F) c 0) 2).index t a * S1x2048.size a + 1 * (y a).val from rfl]
  rw [index_2]
  fin_cases a
  · show 0 * 1 + 1 * (y 0).val = (y 0).val; omega
  · show 0 * 2048 + 1 * (y 1).val = (y 1).val; omega

/-- What the body finds in a window's buffer: what was just fetched, or what it left a step before. -/
theorem before_fetched {cfg : Pipeline.Cfg sig Λ₀} {c : Dev nD} (dat : Dat τ (Elt F) Unit ℕ UU ℕ cfg c) (w : Fin cfg.W) (t : Fin cfg.N) (d)
    (h : (cfg.win w).fetch t = true) : dat.before w t d = dat.fetched w t d := by
  unfold Pipeline.Dat.before; rw [if_pos h]

theorem before_left {cfg : Pipeline.Cfg sig Λ₀} {c : Dev nD} (dat : Dat τ (Elt F) Unit ℕ UU ℕ cfg c) (w : Fin cfg.W) (t : Fin cfg.N) (d)
    (h0 : t.val ≠ 0) (h : (cfg.win w).fetch t = false)
    (hf : ∀ u, (cfg.win w).flush u = false) : dat.before w t d = dat.left w ⟨t.val - 1, Nat.lt_of_le_of_lt (Nat.sub_le _ _) t.isLt⟩ d := by
  rw [dat.before_of_pos w t h0 h d, if_neg (by rw [hf]; decide)]

theorem before_0 (t : Fin grid0.N) (d) : (pdats m 0 c).before 0 t d = partB m c (blk (yc c) t.val) :=
  (before_fetched (pdats m 0 c) 0 t d (fetch_0 c t)).trans (blockOf_0 m c t)

theorem before_1 (t : Fin grid0.N) (d) : (pdats m 0 c).before 1 t d = residB m c (blk (yc c) t.val) :=
  (before_fetched (pdats m 0 c) 1 t d (fetch_1 c t)).trans (blockOf_1 m c t)

theorem before_2 (t : Fin grid0.N) (d) : (pdats m 0 c).before 2 t d = gam m c := by
  by_cases h : t.val = 0
  · exact (before_fetched (pdats m 0 c) 2 t d (fetch_2_zero c t h)).trans (blockOf_2 m c t)
  · exact (before_left (pdats m 0 c) 2 t d h (fetch_2 c t h) (flush_2 c)).trans rfl

/-- Taking the dues in and out of the pipeline's own form. -/
theorem owesAt_intro (t : Fin (grid0.N + 1)) : owe (F := F) c (owed c t.val) ⊢ (pdats m 0 c).owesAt () t := by
  unfold Pipeline.Dat.owesAt Pipeline.owesWithin Pipeline.Dat.bound owe
  iintro ⟨%W, H⟩
  iexists W
  isplitr; · ipureintro; exact fun _ _ => Or.inl trivial
  iexact H

theorem owesAt_elim (t : Fin (grid0.N + 1)) : (pdats m 0 c).owesAt () t ⊢ owe (F := F) c (owed c t.val) := by
  unfold Pipeline.Dat.owesAt Pipeline.owesWithin owe
  iintro ⟨%W, -, HO⟩
  iexists W
  iexact HO

set_option backward.isDefEq.respectTransparency.types false in
/-- The kernel's body at every step. -/
theorem body_at : Pipeline.BodyObligation (pdats m 0 c) defs₀ 𝒱₀ () Set.univ := by
  intro t
  have hΦ : (pdats m 0 c).Φ t.castSucc = PhiT m c t.val := rfl
  have hΦ' : (pdats m 0 c).Φ t.succ = PhiT m c (t.val + 1) := rfl
  have hi := owesAt_elim m c t.castSucc
  have ho := owesAt_intro m c t.succ
  rw [bigSep_W0, bigSep_W0, hΦ, hΦ']
  show iprop(PhiT m c t.val ∗ (pdats m 0 c).owesAt () t.castSucc
      ∗ ((∃ d, owns (c : Thread nD τ) (spec0_0.stage ((cfg0 (adm (F := F) c 0)).slots t 0)) fullShare ((pdats m 0 c).before 0 t d))
        ∗ (∃ d, owns (c : Thread nD τ) (spec0_1.stage ((cfg0 (adm (F := F) c 0)).slots t 1)) fullShare ((pdats m 0 c).before 1 t d))
        ∗ (∃ d, owns (c : Thread nD τ) (spec0_2.stage ((cfg0 (adm (F := F) c 0)).slots t 2)) fullShare ((pdats m 0 c).before 2 t d))))
    ⊢ WP c (defs₀ (F := F) .tc 0 (t, (cfg0 (adm (F := F) c 0)).slots t)) fun _ => iprop(PhiT m c (t.val + 1) ∗ (pdats m 0 c).owesAt () t.succ
      ∗ (owns (c : Thread nD τ) (spec0_0.stage ((cfg0 (adm (F := F) c 0)).slots t 0)) fullShare (partB m c (blk (yc c) t.val))
        ∗ owns (c : Thread nD τ) (spec0_1.stage ((cfg0 (adm (F := F) c 0)).slots t 1)) fullShare (residB m c (blk (yc c) t.val))
        ∗ owns (c : Thread nD τ) (spec0_2.stage ((cfg0 (adm (F := F) c 0)).slots t 2)) fullShare (gam m c)))
  have hb : defs₀ (F := F) .tc 0 (t, (cfg0 (adm (F := F) c 0)).slots t) = bodyC (F := F) (grid0.coords t) (Memref.whole main_arg0) (Memref.whole main_v7) (Memref.whole cc0_scratch0) (Memref.whole cc0_scratch1)
      cc0_scratch2 cc0_scratch3 cc0_scratch4 cc0_scratch5 cc0_scratch6 (spec0_0.stage ((cfg0 (adm (F := F) c 0)).slots t 0))
      (spec0_1.stage ((cfg0 (adm (F := F) c 0)).slots t 1)) (spec0_2.stage ((cfg0 (adm (F := F) c 0)).slots t 2)) := cc0_body_eq ..
  rw [hb]
  generalize spec0_0.stage ((cfg0 (adm (F := F) c 0)).slots t 0) = arg3
  generalize spec0_1.stage ((cfg0 (adm (F := F) c 0)).slots t 1) = arg4
  generalize spec0_2.stage ((cfg0 (adm (F := F) c 0)).slots t 2) = arg5
  simp only [before_0, before_1, before_2]
  unfold PhiT
  iintro ⟨⟨⟨%K, HΦ⟩, HT⟩, HO, ⟨%_, H0⟩, ⟨%_, H1⟩, ⟨%_, H2⟩⟩
  ihave HO := hi $$ HO
  iapply (body_wp m c K (grid0.coords t) t (coords_val t) arg3 arg4 arg5 _) $$ [HΦ HO H0 H1 H2]
  · isplitl [HΦ]; · iexact HΦ
    isplitl [HO]; · iexact HO
    isplitl [H0]; · iexact H0
    isplitl [H1] <;> iassumption
  iintro ⟨HΦ, HO, Hw⟩
  isplitl [HΦ HT]
  · isplitl [HΦ]; · iexists K; iexact HΦ
    iexact HT
  isplitl [HO]; · iapply ho; iexact HO
  iexact Hw

end

end Cert.KernelIdeal.Hand
end
-- ==== Proof.Split.lean ====
/- The buffers of the kernel's region, split into the blocks the protocol moves. -/
module

public import proofs.«01_k».proof.Proof.Dat
public import Idealize.ShloMosaic.Lib.Ring

@[expose] public section

noncomputable section

namespace Cert.KernelIdeal.Hand

open Idealize.ShloMosaic Idealize.ShloMosaic.TcCoe Cert.KernelIdeal.Gen Idealize.ShloMosaic.ValueIdx
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat pinD)

variable {F : FTy → Type} [FloatOps F]

local notation "𝕄" => MT nD τ sig Unit (Elt F) ℕ UU ℕ

variable (m : (ℓ : Loc nD τ sig) → Buf (Elt F) ℓ)

/-! ## The buffers as blocks -/

/-- A buffer of 8192 rows held whole is the two families of 64 blocks of 64 rows, those of half `y` and those of the other. -/
theorem halves {ℓ : Loc nD τ sig} (I : Nat → Finset (Idx ℓ)) (row : Idx ℓ → Nat) (hI : ∀ b i, i ∈ I b ↔ row i / 64 = b)
    (hr : ∀ i, row i < 8192) (y : Nat) (hy : y < 2) (q : PosShare TreeShare) (f : Buf (Elt F) ℓ) :
    (ℓ ↦{q} f : sProp 𝕄) = iprop(bigSep Finset.univ (fun j : Fin 64 => (ℓ ↦[I (blk y j.val)]{q} f : sProp 𝕄))
      ∗ bigSep Finset.univ (fun j : Fin 64 => (ℓ ↦[I (blk (1 - y) j.val)]{q} f : sProp 𝕄))) := by
  have h := Ring.pointsTo_blocks (Ix := Unit) (Name := ℕ) (U := UU) (Lvl := ℕ) (fun p : Fin 2 × Fin 64 => I (blk (if p.1 = 0 then y else 1 - y) p.2.val))
    (by
      rintro ⟨s, j⟩ ⟨s', j'⟩ hne
      rw [Finset.disjoint_left]
      intro i hi hi'
      rw [hI] at hi hi'
      have e := hi.symm.trans hi'
      have hj := j.isLt
      have hj' := j'.isLt
      have hs := s.isLt
      have hs' := s'.isLt
      unfold blk at e
      refine hne (Prod.ext (Fin.ext ?_) (Fin.ext ?_)) <;> dsimp only at e ⊢ <;>
        (split at e <;> split at e <;> rename_i h1 h2 <;> simp only [Fin.ext_iff, Fin.val_zero] at h1 h2 <;> omega))
    (by
      ext i
      simp only [Finset.mem_biUnion, Finset.mem_univ, true_and, iff_true, Prod.exists]
      have hi := hr i
      refine ⟨if row i / 64 / 64 = y then 0 else 1, ⟨row i / 64 % 64, Nat.mod_lt _ (by decide)⟩, (hI _ _).mpr ?_⟩
      unfold blk
      dsimp only
      split
      · rw [if_pos rfl]; omega
      · rw [if_neg (by decide)]; omega)
    (q := q) f
  rw [h, BI.bigSep_univ_prod, BI.bigSep_fin_two]
  rfl

section
variable (c : Dev nD)

/-- The exchanges' share of the partial sums, as blocks. -/
theorem src_halves :
    ((c : Thread nD τ).loc main_arg0 ↦{fullShare.right} argP m c : sProp 𝕄)
      = iprop(bigSep Finset.univ (fun j : Fin 64 => srcPt m c (blk (yc c) j.val)) ∗ bigSep Finset.univ (fun j : Fin 64 => srcPt m c (blk (1 - yc c) j.val))) :=
  halves (ℓ := (c : Thread nD τ).loc main_arg0) (fun b => srcSet b) (fun i : S1x8192x2048.Idx => (i 1).val)
    (fun b i => by show i ∈ Finset.univ.filter _ ↔ _; rw [Finset.mem_filter]; exact and_iff_right (Finset.mem_univ _))
    (fun i => (i 1).isLt) (yc c) (yc_lt c) _ _

/-- The result, as blocks. -/
theorem res_halves (f : Buf (Elt F) ((c : Thread nD τ).loc main_v7)) :
    ((c : Thread nD τ).loc main_v7 ↦{fullShare} f : sProp 𝕄)
      = iprop(bigSep Finset.univ (fun j : Fin 64 => resPt c (blk (yc c) j.val) f) ∗ bigSep Finset.univ (fun j : Fin 64 => resPt c (blk (1 - yc c) j.val) f)) :=
  halves (ℓ := (c : Thread nD τ).loc main_v7) (fun b => resSet b) (fun i : S8192x2048.Idx => (i 0).val)
    (fun b i => by show i ∈ Finset.univ.filter _ ↔ _; rw [Finset.mem_filter]; exact and_iff_right (Finset.mem_univ _))
    (fun i => (i 0).isLt) (yc c) (yc_lt c) _ _

/-- The buffer of arrivals, as slots. -/
theorem slots_eq (f : Buf (Elt F) ((c : Thread nD τ).loc cc0_scratch0)) :
    ((c : Thread nD τ).loc cc0_scratch0 ↦{fullShare} f : sProp 𝕄) = bigSep Finset.univ fun j : Fin 64 => slotPt c j.val f :=
  Ring.pointsTo_blocks (ℓ := (c : Thread nD τ).loc cc0_scratch0) (fun j : Fin 64 => slotSet j.val)
    (fun j j' hne => by
      rw [Finset.disjoint_left]
      intro i hi hi'
      exact hne (Fin.ext ((Finset.mem_filter.mp hi).2.symm.trans (Finset.mem_filter.mp hi').2)))
    (by
      refine Finset.eq_univ_iff_forall.mpr fun (i : S64x64x2048.Idx) => ?_
      exact Finset.mem_biUnion.mpr ⟨⟨(i 0).val, (i 0).isLt⟩, Finset.mem_univ _, Finset.mem_filter.mpr ⟨Finset.mem_univ _, rfl⟩⟩) f

theorem outs_disj (j j' : Fin 2) (hne : j ≠ j') : Disjoint (outSet j.val) (outSet j'.val) := by
  rw [Finset.disjoint_left]
  intro i hi hi'
  exact hne (Fin.ext ((Finset.mem_filter.mp hi).2.symm.trans (Finset.mem_filter.mp hi').2))
theorem outs_cover : Finset.univ.biUnion (fun j : Fin 2 => outSet j.val) = Finset.univ := by
  refine Finset.eq_univ_iff_forall.mpr fun (i : S2x64x2048.Idx) => ?_
  exact Finset.mem_biUnion.mpr ⟨⟨(i 0).val, (i 0).isLt⟩, Finset.mem_univ _, Finset.mem_filter.mpr ⟨Finset.mem_univ _, rfl⟩⟩

/-- The buffer of departures, as its two slots, -/
theorem outs_split :
    iprop(∃ f : Buf (Elt F) ((c : Thread nD τ).loc cc0_scratch1), (c : Thread nD τ).loc cc0_scratch1 ↦{fullShare} f)
      ⊢ (iprop(outAny c 0 ∗ outAny c 1) : sProp 𝕄) := by
  iintro ⟨%f, H⟩
  have h : ((c : Thread nD τ).loc cc0_scratch1 ↦{fullShare} f : sProp 𝕄) = iprop(outPt c 0 fullShare f ∗ outPt c 1 fullShare f) :=
    (Ring.pointsTo_blocks (ℓ := (c : Thread nD τ).loc cc0_scratch1) (fun j : Fin 2 => outSet j.val) outs_disj outs_cover f).trans
      (BI.bigSep_fin_two _)
  ihave H := (Entails.of_eq h) $$ H
  icases H with ⟨H0, H1⟩
  isplitl [H0]
  · iexists f; iexact H0
  iexists f; iexact H1
/-- and back. -/
theorem outs_join (f₀ : Buf (Elt F) ((c : Thread nD τ).loc cc0_scratch1)) :
    (iprop(outAny c 0 ∗ outAny c 1) : sProp 𝕄)
      ⊢ iprop(∃ f : Buf (Elt F) ((c : Thread nD τ).loc cc0_scratch1), (c : Thread nD τ).loc cc0_scratch1 ↦{fullShare} f) :=
  (Entails.of_eq (BI.bigSep_fin_two fun j : Fin 2 => (outAny c j.val : sProp 𝕄)).symm).trans
    (Ring.pointsTo_blocks_join_exists (ℓ := (c : Thread nD τ).loc cc0_scratch1) (fun j : Fin 2 => outSet j.val) outs_disj outs_cover f₀)

/-- The first two steps' slots are the only ones ready at the start. -/
theorem freshC_eq : bigSep Finset.univ (FreshC (F := F) c) = iprop(Ready c 0 ∗ Ready c 1) := by
  have h0 : bigSep ((Finset.univ.erase (0 : Fin 64)).erase 1) (FreshC (F := F) c) = iprop(emp) := by
    refine (bigSep_congr fun j hj => ?_).trans (bigSep_emp_const _)
    refine if_neg ?_
    have h1 : j ≠ 1 := (Finset.mem_erase.mp hj).1
    have h2 : j ≠ 0 := (Finset.mem_erase.mp (Finset.mem_erase.mp hj).2).1
    have h1 : j.val ≠ 1 := fun e => h1 (Fin.ext e)
    have h2 : j.val ≠ 0 := fun e => h2 (Fin.ext e)
    omega
  rw [bs_at (Finset.mem_univ (0 : Fin 64)), bs_at (s := Finset.univ.erase 0) (i := (1 : Fin 64)) (by decide), h0, show (iprop(FreshC c 1 ∗ emp) : sProp 𝕄) = FreshC c 1 from equiv_iff.mp BI.sep_emp]
  rfl

end

end Cert.KernelIdeal.Hand
end
-- ==== Proof.Region.lean ====
/- The kernel's region of the program: its entry, its exit, and the semaphores it owns. -/
module

public import proofs.«01_k».proof.Proof.Split

@[expose] public section

noncomputable section

namespace Cert.KernelIdeal.Hand

open Idealize.ShloMosaic Idealize.ShloMosaic.TcCoe Cert.KernelIdeal.Gen Idealize.ShloMosaic.ValueIdx
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat pinD)

variable {F : FTy → Type} [FloatOps F]

local notation "𝕄" => MT nD τ sig Unit (Elt F) ℕ UU ℕ

variable (m : (ℓ : Loc nD τ sig) → Buf (Elt F) ℓ)

/-! ## What is owed, cell by cell -/

section
variable (c : Dev nD)

theorem pos_or {a b : CellTallies nD τ sig Unit} {g : GSem nD τ sig} {u : Unit} (h : 0 < (a + b) g u) : 0 < a g u ∨ 0 < b g u := by
  have h : 0 < a g u + b g u := h
  omega

/-- Whatever a device owes is owed to a cell of the protocol above the pipeline's own. -/
theorem owed_pos {t : Nat} {g : GSem nD τ sig} {u : Unit} (h : 0 < owed c t g u) : ∃ d k, g = cell d k ∧ 0 < lvK (some k) := by
  have hY : ∀ {n : Nat}, 0 < owesY c n g u → ∃ d k, g = cell d k ∧ 0 < lvK (some k) := fun h => by
    obtain ⟨j, e⟩ := owesY_pos c h
    exact ⟨yp c, .ar .ry j, e, Nat.succ_pos 2⟩
  unfold owed at h
  split at h
  · unfold owes0 at h
    rcases pos_or h with h | h
    · rcases pos_or h with h | h
      · rcases pos_or h with h | h
        · exact hY h
        · obtain ⟨j, e⟩ := owesX_pos c h
          exact ⟨xp c, .ar .rx j, e, Nat.succ_pos 1⟩
      · exact ⟨yp c, .bar, tally_pos h, Nat.succ_pos 0⟩
    · exact ⟨xp c, .bar, tally_pos h, Nat.succ_pos 0⟩
  · exact hY h

theorem stage_kind : ∀ (w : Fin 3) (s : Fin (spec0 w).nbuf), kindOf (.dma ((spec0 w).sem s)) = none := by decide

/-- The pipeline's own waits may happen whatever is owed. -/
theorem waits : (levAts L lv : sProp 𝕄) ⊢ Pipeline.PerCore.cellsWaits (pinD (pcfgs (F := F)) adm) (pdats m) () 0 c :=
  Pipeline.PerCore.cellsWaits_intro (pinD (pcfgs (F := F)) adm) (pdats m) () 0 c fun w s t =>
    MayOwe.of_cut (L := L) (lev := lv) 0
      (fun p hp => by rw [Finset.mem_singleton.mp hp, L_tc]; exact Finset.mem_singleton_self _)
      (fun g u hg => by obtain ⟨d, k, rfl, -⟩ := owed_pos c (t := t.val) hg; rw [L_tc]; exact Finset.mem_singleton_self _)
      (fun p hp => by
        rw [Finset.mem_singleton.mp hp]
        exact (congrArg lvK (stage_kind w s)).le)
      (fun g u hg => by obtain ⟨d, k, rfl, hk⟩ := owed_pos c (t := t.val) hg; rw [lv_cell]; exact hk)

/-! ## The buffers at the region's two ends -/

/-- A buffer of the program, whole. -/
abbrev pt (b : Ref sig .tc) (f : Buf (Elt F) ((c : Thread nD τ).loc b)) : sProp 𝕄 := (c : Thread nD τ).loc b ↦{fullShare} f

/-- The buffers outside the region, one by one. -/
theorem bufs_eq (V : (b : Ref sig .tc) → Buf (Elt F) ((c : Thread nD τ).loc b)) :
    (unscopedBufs c V : sProp 𝕄) = iprop(pt c main_arg0 (V main_arg0) ∗ pt c main_arg1 (V main_arg1) ∗ pt c main_arg2 (V main_arg2)
      ∗ pt c main_v1 (V main_v1) ∗ pt c main_c (V main_c) ∗ pt c main_c_0 (V main_c_0) ∗ pt c main_v2 (V main_v2) ∗ pt c main_v3 (V main_v3)
      ∗ pt c main_v4 (V main_v4) ∗ pt c main_v5 (V main_v5) ∗ pt c main_v6 (V main_v6) ∗ pt c main_v7 (V main_v7)) :=
  bigSep_eq_bigSepL_of_eq [main_arg0, main_arg1, main_arg2, main_v1, main_c, main_c_0, main_v2, main_v3, main_v4, main_v5, main_v6, main_v7]
    (by decide) (by decide) _

/-- The table as the pipeline holds it. -/
theorem tblHeld_eq : (tblHeld c : sProp 𝕄) = pt c main_v6 (tbl (F := F) c 0) := by
  unfold tblHeld Pipeline.prefHeld
  exact BI.bigSep_univ_eq_bigSepL [(0 : Fin 1)] (by decide) (by decide) _

/-- The windows' arrays at every step: half of the partial sums, the residual and the scale. -/
theorem arrays_at (t : Nat) : ((pdats m 0 c).arrays ((pdats m 0 c).arrAt · t) : sProp 𝕄)
    = iprop(((c : Thread nD τ).loc main_arg0 ↦{fullShare.left} argP m c) ∗ pt c main_arg1 (argR m c) ∗ pt c main_v1 (gam m c)) := by
  have hV0 : (V1 m c main_arg0 : Vec F S1x8192x2048 .f32) = argP m c := V1_of m c main_arg0 (by decide)
  have hV1 : (V1 m c main_arg1 : Vec F S8192x2048 .f32) = argR m c := V1_of m c main_arg1 (by decide)
  have hV2 := V1_gam m c
  have e0 : (pdats m 0 c).arrAt 0 t = V1 m c main_arg0 := (pdats m 0 c).arrAt_in 0 rfl t
  have e1 : (pdats m 0 c).arrAt 1 t = V1 m c main_arg1 := (pdats m 0 c).arrAt_in 1 rfl t
  have e2 : (pdats m 0 c).arrAt 2 t = V1 m c main_v1 := (pdats m 0 c).arrAt_in 2 rfl t
  rw [hV0] at e0; rw [hV1] at e1; rw [hV2] at e2
  refine (bigSep_W0 _).trans ?_
  refine congrArg₂ _ ?_ (congrArg₂ _ ?_ ?_)
  · show ((c : Thread nD τ).loc main_arg0 ↦[(spec0 0).arr.view.set]{fullShare.left} (pdats m 0 c).arrAt 0 t : sProp 𝕄) = _
    rw [(arr_whole0 0).set_eq_univ]
    exact congrArg (fun f => ((c : Thread nD τ).loc main_arg0 ↦{fullShare.left} f : sProp 𝕄)) e0
  · show ((c : Thread nD τ).loc main_arg1 ↦[(spec0 1).arr.view.set]{fullShare} (pdats m 0 c).arrAt 1 t : sProp 𝕄) = _
    rw [(arr_whole0 1).set_eq_univ]
    exact congrArg (fun f => ((c : Thread nD τ).loc main_arg1 ↦{fullShare} f : sProp 𝕄)) e1
  · show ((c : Thread nD τ).loc main_v1 ↦[(spec0 2).arr.view.set]{fullShare} (pdats m 0 c).arrAt 2 t : sProp 𝕄) = _
    rw [(arr_whole0 2).set_eq_univ]
    exact congrArg (fun f => ((c : Thread nD τ).loc main_v1 ↦{fullShare} f : sProp 𝕄)) e2

end

end Cert.KernelIdeal.Hand
end
-- ==== Proof.Seg.lean ====
/- The kernel's region of the program, as the launch takes it. -/
module

public import proofs.«01_k».proof.Proof.Region

@[expose] public section

noncomputable section

namespace Cert.KernelIdeal.Hand

open Idealize.ShloMosaic Idealize.ShloMosaic.TcCoe Cert.KernelIdeal.Gen Idealize.ShloMosaic.ValueIdx
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat pinD)

variable {F : FTy → Type} [FloatOps F]

local notation "𝕄" => MT nD τ sig Unit (Elt F) ℕ UU ℕ

variable (m : (ℓ : Loc nD τ sig) → Buf (Elt F) ℓ)

section
variable (c : Dev nD)

/-! ## What the launch deals a device -/

/-- The barrier's part. -/
def BarRes : sProp 𝕄 :=
  iprop(atPos ER (cell c .bar) 0 ∅ 0 ∗ cred (tallyAt (cell c .bar) () 2)
    ∗ (dutyTok ER (cell (xp c) .bar) 0 true ∗ reached ER (cell (xp c) .bar) 0) ∗ (dutyTok ER (cell (yp c) .bar) 0 false ∗ reached ER (cell (yp c) .bar) 0))
/-- The duties a device pays at the other semaphores. -/
def Toks : sProp 𝕄 :=
  iprop(bigSep Finset.univ (fun j : Fin 64 => dutyTok ER (cell c (.ar .sx j)) 0 true)
    ∗ bigSep Finset.univ (fun j : Fin 64 => dutyTok ER (cell (xp c) (.ar .rx j)) 0 true)
    ∗ bigSep Finset.univ (fun j : Fin 64 => dutyTok ER (cell c (.ar .sy j)) 0 true)
    ∗ bigSep Finset.univ (fun j : Fin 64 => dutyTok ER (cell (yp c) (.ar .ry j)) 0 true)
    ∗ bigSep Finset.univ (fun j : Fin 64 => dutyTok ER (cell c (.lc (par j))) (j.val / 2) true))
/-- The arrivals others owe it. -/
def Creds : sProp 𝕄 :=
  iprop(bigSep Finset.univ (fun j : Fin 64 => cred (tallyAt (cell c (.ar .rx j)) () N))
    ∗ bigSep Finset.univ (fun j : Fin 64 => cred (tallyAt (cell c (.ar .ry j)) () N)))
/-- The rights to open its other semaphores' cells. -/
def Opens : sProp 𝕄 := bigSep Finset.univ fun d : DK => openTok ER (cell c (kD d))
/-- All of it. -/
def Dealt : sProp 𝕄 := iprop((∃ K, invs m K) ∗ BarRes c ∗ Toks c ∗ Creds c ∗ Opens c)

/-- A semaphore's cell just opened. -/
def Opened (k : CK) : sProp 𝕄 := iprop(atPos ER (cell c k) 0 ∅ 0 ∗ reached ER (cell c k) 0)

/-- The cells opened, at counters of zero. -/
theorem open_all (K : GSem nD τ sig → ℕ) :
    iprop(invs m K ∗ Opens c ∗ bigSep Finset.univ (fun d : DK => (semVal (cell c (kD d)) 0 : sProp 𝕄)))
      ⊢ iprop(|={Set.univ}=> bigSep Finset.univ fun d : DK => Opened c (kD d)) := by
  have h : ∀ d ∈ (Finset.univ : Finset DK), iprop(invs m K ∗ (openTok ER (cell c (kD d)) ∗ (semVal (cell c (kD d)) 0 : sProp 𝕄)))
      ⊢ iprop(|={Set.univ}=> Opened c (kD d)) := fun d _ => by
    iintro ⟨#HI, Ho, Hs⟩
    iapply (Rounds.cell_open ER (Rd m) (κ := K (cell c (kD d))) (Set.mem_univ _))
    isplitr; · iapply (inv_at m K c (kD d)); iexact HI
    isplitl [Ho]; · iexact Ho
    iexact Hs
  refine BI.Entails.trans ?_ (bigSep_fupd Finset.univ _)
  refine BI.Entails.trans ?_ (bigSep_with_persistent h)
  unfold Opens
  rw [bigSep_sep' Finset.univ]
  exact BI.Entails.refl _

/-! ## The region's states -/

/-- What the region's steps start from, but for its own buffers. -/
def Ent : sProp 𝕄 :=
  iprop((∃ K, invs m K ∗ levAts L lv) ∗ (BarRes c ∗ Toks c ∗ Creds c) ∗ bigSep Finset.univ (fun d : DK => Opened c (kD d))
    ∗ bigSep Finset.univ (fun j : Fin 64 => srcPt m c (blk (yc c) j.val))
    ∗ bigSep Finset.univ (fun j : Fin 64 => resAny c (blk (yc c) j.val)) ∗ bigSep Finset.univ (fun j : Fin 64 => resAny c (blk (1 - yc c) j.val)))
/-- What its steps leave. -/
def Lft : sProp 𝕄 :=
  iprop(tblHeld c ∗ semVal (cell c .bar) 0
    ∗ bigSep Finset.univ (fun j : Fin 64 => srcPt m c (blk (yc c) j.val))
    ∗ bigSep Finset.univ (fun j : Fin 64 => resPt c (blk (yc c) j.val) (resV m c))
    ∗ bigSep Finset.univ (fun j : Fin 64 => resPt c (blk (1 - yc c) j.val) (resV m c)))
/-- What it leaves alone. -/
def Idle : sProp 𝕄 :=
  iprop(bigSep Finset.univ (fun j : Fin 64 => srcPt m c (blk (1 - yc c) j.val)) ∗ pt c main_arg2 (m ((c : Thread nD τ).loc main_arg2)))
/-- What the program ends with: its arguments as they were, the result, and the barrier at zero. -/
def Fin' : sProp 𝕄 :=
  iprop(pt c main_arg0 (m ((c : Thread nD τ).loc main_arg0)) ∗ pt c main_arg1 (m ((c : Thread nD τ).loc main_arg1))
    ∗ pt c main_arg2 (m ((c : Thread nD τ).loc main_arg2)) ∗ pt c main_v7 (resV m c) ∗ semVal (cell c .bar) 0)

theorem resAny_of (b : Nat) (f : Buf (Elt F) ((c : Thread nD τ).loc main_v7)) : (resPt c b f : sProp 𝕄) ⊢ resAny c b := by
  iintro H; iexists f; iexact H
theorem slotAny_of (j : Nat) (f : Buf (Elt F) ((c : Thread nD τ).loc cc0_scratch0)) : (slotPt c j f : sProp 𝕄) ⊢ slotAny c j := by
  iintro H; iexists f; iexact H

/-- The region's entry: the buffers sorted and the cells opened. -/
theorem enter :
    iprop((unscopedBufs c (fun b => V1 m c b) ∗ Dealt m c ∗ owe c (owes0 c)) ∗ bigSep Finset.univ (fun d : DK => (semVal (cell c (kD d)) 0 : sProp 𝕄)) ∗ levAts L lv)
      ⊢ iprop(|={Set.univ}=> ((((c : Thread nD τ).loc main_arg0 ↦{fullShare.left} argP m c) ∗ pt c main_arg1 (argR m c) ∗ pt c main_v1 (gam m c))
        ∗ tblHeld c ∗ owe c (owes0 c) ∗ Ent m c ∗ Idle m c)) := by
  have hV0 : (V1 m c main_arg0 : Vec F S1x8192x2048 .f32) = argP m c := V1_of m c main_arg0 (by decide)
  have hV1 : (V1 m c main_arg1 : Vec F S8192x2048 .f32) = argR m c := V1_of m c main_arg1 (by decide)
  have hV2 : V1 m c main_arg2 = m ((c : Thread nD τ).loc main_arg2) := V1_of m c main_arg2 (by decide)
  have hV3 := V1_gam m c
  have hV4 := V1_tbl m c
  have hs : ((c : Thread nD τ).loc main_arg0 ↦{fullShare} argP m c : sProp 𝕄)
      ⊢ iprop(((c : Thread nD τ).loc main_arg0 ↦{fullShare.left} argP m c) ∗ ((c : Thread nD τ).loc main_arg0 ↦{fullShare.right} argP m c)) :=
    (pointsTo_share (PosShare.mem_left_op_right fullShare)).1
  have hany : ∀ (y : Nat) (f : Buf (Elt F) ((c : Thread nD τ).loc main_v7)), (bigSep Finset.univ fun j : Fin 64 => resPt c (blk y j.val) f)
      ⊢ (bigSep Finset.univ fun j : Fin 64 => resAny c (blk y j.val) : sProp 𝕄) := fun y f =>
    bigSep_mono fun j _ => resAny_of c (blk y j.val) f
  rw [bufs_eq c, tblHeld_eq]
  unfold Dealt
  iintro ⟨⟨⟨H0, H1, H2, H3, -, -, -, -, -, -, H6, H7⟩, ⟨⟨%K, #HI⟩, HB, HT, HC, Ho⟩, HO⟩, Hs, #Hl⟩
  imod (open_all m c K) $$ [Ho Hs] with Hop
  · isplitr; · iexact HI
    isplitl [Ho] <;> iassumption
  ihave H0 := (Entails.of_eq (congrArg (fun f => pt c main_arg0 f) hV0)) $$ H0
  ihave H1 := (Entails.of_eq (congrArg (fun f => pt c main_arg1 f) hV1)) $$ H1
  ihave H2 := (Entails.of_eq (congrArg (fun f => pt c main_arg2 f) hV2)) $$ H2
  ihave H3 := (Entails.of_eq (congrArg (fun f => pt c main_v1 f) hV3)) $$ H3
  ihave H6 := (Entails.of_eq (congrArg (fun f => pt c main_v6 f) hV4)) $$ H6
  ihave H0 := hs $$ H0
  icases H0 with ⟨H0l, H0r⟩
  ihave H0r := (Entails.of_eq (src_halves m c)) $$ H0r
  icases H0r with ⟨Hsrc, Hidle⟩
  ihave H7 := (Entails.of_eq (res_halves c _)) $$ H7
  icases H7 with ⟨Hr, Hr'⟩
  imodintro
  isplitl [H0l H1 H3]
  · isplitl [H0l]; · iexact H0l
    isplitl [H1]; · iexact H1
    iexact H3
  isplitl [H6]; · iexact H6
  isplitl [HO]; · iexact HO
  unfold Ent Idle
  isplitr [Hidle H2]
  · isplitr
    · iexists K
      isplitr; · iexact HI
      iexact Hl
    isplitl [HB HT HC]
    · isplitl [HB]; · iexact HB
      isplitl [HT] <;> iassumption
    isplitl [Hop]; · iexact Hop
    isplitl [Hsrc]; · iexact Hsrc
    isplitl [Hr]
    · iapply (hany (yc c) _); iexact Hr
    iapply (hany (1 - yc c) _); iexact Hr'
  isplitl [Hidle]; · iexact Hidle
  iexact H2

/-- What the steps start from, with the region's own buffers. -/
theorem begin_steps :
    iprop(Ent m c ∗ tblHeld c ∗ Pipeline.scopedRest (Val := Elt F) spec0 c) ⊢ PhiT m c 0 := by
  have hslots : iprop(∃ f : Buf (Elt F) ((c : Thread nD τ).loc cc0_scratch0), (c : Thread nD τ).loc cc0_scratch0 ↦{fullShare} f)
      ⊢ (bigSep Finset.univ fun j : Fin 64 => slotAny c j.val : sProp 𝕄) := by
    iintro ⟨%f, H⟩
    iapply ((Entails.of_eq (slots_eq c f)).trans (bigSep_mono fun j _ => slotAny_of c j.val f))
    iexact H
  have hop : ∀ a : Arr, (bigSep Finset.univ fun j : Fin 64 => Opened c (.ar a j))
      ⊢ (iprop(bigSep Finset.univ (fun j : Fin 64 => atPos ER (cell c (.ar a j)) 0 ∅ 0) ∗ bigSep Finset.univ (fun j : Fin 64 => reached ER (cell c (.ar a j)) 0)) : sProp 𝕄) :=
    fun a => bs_part _ _
  have hDK : bigSep Finset.univ (fun d : DK => Opened c (kD d))
      = (iprop((bigSep Finset.univ (fun j : Fin 64 => Opened c (.ar .sx j)) ∗ bigSep Finset.univ (fun j : Fin 64 => Opened c (.ar .rx j))
        ∗ bigSep Finset.univ (fun j : Fin 64 => Opened c (.ar .sy j)) ∗ bigSep Finset.univ (fun j : Fin 64 => Opened c (.ar .ry j)))
        ∗ Opened c (.lc 0) ∗ Opened c (.lc 1)) : sProp 𝕄) := bs_DK (F := F) (fun d => Opened c (kD d))
  have hr0 : (iprop(outAny c 0 ∗ Opened c (.lc 0)) : sProp 𝕄) ⊢ Ready c 0 := BI.Entails.refl _
  have hr1 : (iprop(outAny c 1 ∗ Opened c (.lc 1)) : sProp 𝕄) ⊢ Ready c 1 := BI.Entails.refl _
  have hPhi : ∀ K, Start m c K ⊢ PhiK m c K 0 := fun K => Entails.of_eq (if_pos rfl).symm
  rw [scopedRest0_eq]
  unfold PhiT Ent Toks Creds
  iintro ⟨⟨⟨%K, #HI, #Hl⟩, ⟨HB, ⟨T1, T2, T3, T4, T5⟩, C1, C2⟩, Hop, Hsrc, Hr, Hr'⟩, Htbl, Hs0, Hs1⟩
  isplitr [Htbl]
  · iexists K
    iapply (hPhi K)
    ihave Hop := (Entails.of_eq hDK) $$ Hop
    icases Hop with ⟨⟨Psx, Prx, Psy, Pry⟩, L0, L1⟩
    ihave Psx := (hop .sx) $$ Psx
    ihave Prx := (hop .rx) $$ Prx
    ihave Psy := (hop .sy) $$ Psy
    ihave Pry := (hop .ry) $$ Pry
    icases Psx with ⟨Psx, Rsx⟩
    icases Prx with ⟨Prx, Rrx⟩
    icases Psy with ⟨Psy, Rsy⟩
    icases Pry with ⟨Pry, Rry⟩
    ihave Hs0 := hslots $$ Hs0
    ihave Hs1 := (outs_split c) $$ Hs1
    icases Hs1 with ⟨O0, O1⟩
    unfold Start
    isplitr
    · isplitr; · iexact HI
      iexact Hl
    isplitl [HB]
    · unfold BarRes; iexact HB
    isplitl [Hs0 Rrx Hr' Rry]
    · unfold barPayX barPayY
      isplitl [Hs0 Rrx]
      · iapply (bs_join (fun j : Fin 64 => slotAny c j.val) (fun j : Fin 64 => reached ER (cell c (.ar .rx j)) 0))
        isplitl [Hs0] <;> iassumption
      · iapply (bs_join (fun j : Fin 64 => resAny c (blk (1 - yc c) j.val)) (fun j : Fin 64 => reached ER (cell c (.ar .ry j)) 0))
        isplitl [Hr'] <;> iassumption
    isplitl [Hsrc T1 Rsx T2]
    · iapply (bs_join (fun j : Fin 64 => srcPt m c (blk (yc c) j.val)) _)
      isplitl [Hsrc]; · iexact Hsrc
      iapply (bs_join (fun j : Fin 64 => dutyTok ER (cell c (.ar .sx j)) 0 true) _)
      isplitl [T1]; · iexact T1
      iapply (bs_join (fun j : Fin 64 => reached ER (cell c (.ar .sx j)) 0) _)
      isplitl [Rsx]; · iexact Rsx
      iexact T2
    isplitl [Psx]; · iexact Psx
    isplitl [Prx C1]
    · iapply (bs_join (fun j : Fin 64 => atPos ER (cell c (.ar .rx j)) 0 ∅ 0) _)
      isplitl [Prx]; · iexact Prx
      iexact C1
    isplitl [Psy Rsy T3 T4 T5 Hr]
    · iapply (bs_join (fun j : Fin 64 => atPos ER (cell c (.ar .sy j)) 0 ∅ 0) _)
      isplitl [Psy]; · iexact Psy
      iapply (bs_join (fun j : Fin 64 => reached ER (cell c (.ar .sy j)) 0) _)
      isplitl [Rsy]; · iexact Rsy
      iapply (bs_join (fun j : Fin 64 => dutyTok ER (cell c (.ar .sy j)) 0 true) _)
      isplitl [T3]; · iexact T3
      iapply (bs_join (fun j : Fin 64 => dutyTok ER (cell (yp c) (.ar .ry j)) 0 true) _)
      isplitl [T4]; · iexact T4
      iapply (bs_join (fun j : Fin 64 => dutyTok ER (cell c (.lc (par j))) (j.val / 2) true) _)
      isplitl [T5]; · iexact T5
      iexact Hr
    isplitl [O0 O1 L0 L1]
    · rw [freshC_eq]
      isplitl [O0 L0]
      · iapply hr0
        isplitl [O0] <;> iassumption
      · iapply hr1
        isplitl [O1] <;> iassumption
    iapply (bs_join (fun j : Fin 64 => atPos ER (cell c (.ar .ry j)) 0 ∅ 0) _)
    isplitl [Pry]; · iexact Pry
    iexact C2
  iexact Htbl

/-- What the steps leave, with the region's own buffers and its counters at zero. -/
theorem end_steps :
    PhiT m c 64 ⊢ iprop(Lft m c ∗ bigSep Finset.univ (fun d : DK => (semVal (cell c (kD d)) 0 : sProp 𝕄)) ∗ Pipeline.scopedRest (Val := Elt F) spec0 c) := by
  have hPhi : ∀ K, PhiK m c K 64 ⊢ End m c := fun K => Entails.of_eq ((if_neg (by decide)).trans (if_pos rfl))
  rw [scopedRest0_eq]
  unfold PhiT Lft
  iintro ⟨⟨%K, H⟩, Htbl⟩
  ihave H := (hPhi K) $$ H
  unfold End
  icases H with ⟨⟨Hd, Hb⟩, Hs, Ho, Hsrc, Hr, Hr'⟩
  isplitl [Htbl Hb Hsrc Hr Hr']
  · isplitl [Htbl]; · iexact Htbl
    isplitl [Hb]; · iexact Hb
    isplitl [Hsrc]; · iexact Hsrc
    isplitl [Hr] <;> iassumption
  isplitl [Hd]; · iexact Hd
  isplitl [Hs]
  · iexists (landV m c)
    iapply (Entails.of_eq (slots_eq c (landV m c)).symm)
    iexact Hs
  iapply (outs_join c (outV m c 0)); iexact Ho

/-- The region's exit: the buffers whole again. -/
theorem leave :
    iprop((((c : Thread nD τ).loc main_arg0 ↦{fullShare.left} argP m c) ∗ pt c main_arg1 (argR m c) ∗ pt c main_v1 (gam m c))
        ∗ Lft m c ∗ Idle m c) ⊢ Fin' m c := by
  have hs : iprop(((c : Thread nD τ).loc main_arg0 ↦{fullShare.left} argP m c) ∗ ((c : Thread nD τ).loc main_arg0 ↦{fullShare.right} argP m c))
      ⊢ ((c : Thread nD τ).loc main_arg0 ↦{fullShare} argP m c : sProp 𝕄) :=
    (pointsTo_share (PosShare.mem_left_op_right fullShare)).2
  unfold Lft Idle Fin'
  iintro ⟨⟨H0l, H1, -⟩, ⟨-, Hb, Hsrc, Hr, Hr'⟩, Hidle, H2⟩
  isplitl [H0l Hsrc Hidle]
  · iapply hs
    isplitl [H0l]; · iexact H0l
    iapply (Entails.of_eq (src_halves m c).symm)
    isplitl [Hsrc] <;> iassumption
  isplitl [H1]; · iexact H1
  isplitl [H2]; · iexact H2
  isplitl [Hr Hr']
  · iapply (Entails.of_eq (res_halves c (resV m c)).symm)
    isplitl [Hr] <;> iassumption
  iexact Hb

end

/-! ## The region -/

/-- The region's own semaphores are scoped, distinct, and none of the pipeline's. -/
theorem osem_facts : Pipeline.OwnSemFacts spec0 (fun d : DK => semK (kD d)) where
  isScoped := by
    rintro (⟨a, j⟩ | s)
    · revert a j; decide
    · revert s; decide
  inj := fun d e h => kD_inj (semK_inj h)
  disj := fun d w s h => by
    have h1 := stage_kind w s
    rw [← h, kindOf_semK] at h1
    cases h1

set_option backward.isDefEq.respectTransparency.types false in
/-- The region as the launch takes it. -/
def reg : Pipeline.PerCore.RegionSeg (pcfgs (F := F)) adm (pdats m) () defs₀ 𝒱₀ L lv (0 : Fin 1) where
  win := winFacts0.to₀
  block_pos := block_pos0
  stage_whole := stage_whole0
  K := DK
  osem := fun d => semK (kD d)
  ho := osem_facts
  hbody c := (body_at m c).loose
  hwaits c := waits m c
  pre c := iprop(StableHlo.held (c : Thread nD τ) (Pipeline.ucRefs τ sig) (V1 m c) ∗ Dealt m c ∗ owe c (owes0 c))
  post c := iprop(Fin' m c ∗ owe c 0)
  X c := Ent m c
  Y c := Lft m c
  Z c := Idle m c
  hentry c := by
    have hT : (tblHeld c : sProp 𝕄) ⊢ Pipeline.prefHeld (pcfgs (F := F) 0).pre c (fun _ => fullShare) (adm c 0).1 := BI.Entails.refl _
    rw [arrays_at, ← Pipeline.unscopedBufs_held]
    refine (enter m c).trans (BI.fupd_mono ?_)
    iintro ⟨HA, HT, HO, HX⟩
    isplitl [HA]; · iexact HA
    isplitl [HT]
    · iapply hT; iexact HT
    isplitl [HO]
    · iapply (owesAt_intro m c 0); iexact HO
    iexact HX
  hin c := begin_steps m c
  hout c := end_steps m c
  hexit c := by
    rw [arrays_at]
    have ho : (pdats m 0 c).owesAt () (Fin.last grid0.N) ⊢ owe c 0 := (owesAt_elim m c (Fin.last grid0.N)).trans
      (Entails.of_eq (congrArg (owe c) ((if_neg (by decide)).trans (owesY_last c))))
    iintro ⟨HA, HO, HY, HZ⟩
    imodintro
    isplitl [HA HY HZ]
    · iapply (leave m c)
      isplitl [HA]; · iexact HA
      isplitl [HY] <;> iassumption
    iapply ho; iexact HO

end Cert.KernelIdeal.Hand
end
-- ==== Proof.Deal.lean ====
/- What the launch deals: the tokens of the duties, handed to the devices that pay them, and the credit for what is owed. -/
module

public import proofs.«01_k».proof.Proof.Seg

@[expose] public section

noncomputable section

namespace Cert.KernelIdeal.Hand

open Idealize.ShloMosaic Idealize.ShloMosaic.TcCoe Cert.KernelIdeal.Gen Idealize.ShloMosaic.ValueIdx
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat pinD)

variable {F : FTy → Type} [FloatOps F]

local notation "𝕄" => MT nD τ sig Unit (Elt F) ℕ UU ℕ

variable (m : (ℓ : Loc nD τ sig) → Buf (Elt F) ℓ)

/-! ## The duties' tokens -/

/-- A semaphore's duties, named: the barrier's two, an array's entry's one, and a slot's counter's one per step that uses the slot. -/
abbrev TK : Type := Bool ⊕ ((Arr × Fin 64) ⊕ Fin 64)
def tokK : TK → CK × ℕ × Bool
  | .inl b => (.bar, 0, b)
  | .inr (.inl (a, j)) => (.ar a j, 0, true)
  | .inr (.inr j) => (.lc (par j), j.val / 2, true)
theorem tokK_inj : Function.Injective tokK := by
  rintro (b | ⟨a, j⟩ | j) (b' | ⟨a', j'⟩ | j') h
  · exact congrArg Sum.inl (congrArg (fun x : CK × ℕ × Bool => x.2.2) h)
  · cases (congrArg (fun x : CK × ℕ × Bool => x.1) h)
  · cases (congrArg (fun x : CK × ℕ × Bool => x.1) h)
  · cases (congrArg (fun x : CK × ℕ × Bool => x.1) h)
  · have h1 := congrArg (fun x : CK × ℕ × Bool => x.1) h
    simp only [tokK, CK.ar.injEq] at h1
    rw [h1.1, h1.2]
  · cases (congrArg (fun x : CK × ℕ × Bool => x.1) h)
  · cases (congrArg (fun x : CK × ℕ × Bool => x.1) h)
  · cases (congrArg (fun x : CK × ℕ × Bool => x.1) h)
  · have h1 := congrArg (fun x : CK × ℕ × Bool => x.1) h
    have h2 : j.val / 2 = j'.val / 2 := congrArg (fun x : CK × ℕ × Bool => x.2.1) h
    simp only [tokK, CK.lc.injEq, par, Fin.mk.injEq] at h1
    exact congrArg (fun j => Sum.inr (Sum.inr j)) (Fin.ext (by omega))

def tokEmb : Dev nD × TK ↪ GSem nD τ sig × ℕ × Bool :=
  ⟨fun p => (cell p.1 (tokK p.2).1, (tokK p.2).2.1, (tokK p.2).2.2), fun p q h => by
    have h1 := cell_inj (congrArg (fun x : GSem nD τ sig × ℕ × Bool => x.1) h)
    have h2 := congrArg (fun x : GSem nD τ sig × ℕ × Bool => x.2.1) h
    have h3 := congrArg (fun x : GSem nD τ sig × ℕ × Bool => x.2.2) h
    exact Prod.ext h1.1 (tokK_inj (Prod.ext h1.2 (Prod.ext h2 h3)))⟩
/-- Every duty's token. -/
def toks : Finset (GSem nD τ sig × ℕ × Bool) := Finset.univ.map tokEmb

section
variable (c : Dev nD)

/-- The tokens of one device's semaphores. -/
def ownBar : sProp 𝕄 := iprop(dutyTok ER (cell c .bar) 0 true ∗ dutyTok ER (cell c .bar) 0 false)
def ownArr (a : Arr) : sProp 𝕄 := bigSep Finset.univ fun j : Fin 64 => dutyTok ER (cell c (.ar a j)) 0 true
def ownLc : sProp 𝕄 := bigSep Finset.univ fun j : Fin 64 => dutyTok ER (cell c (.lc (par j))) (j.val / 2) true
/-- The barriers' duties a device pays. -/
def TokBar : sProp 𝕄 := iprop(dutyTok ER (cell (xp c) .bar) 0 true ∗ dutyTok ER (cell (yp c) .bar) 0 false)

theorem tok_of : (bigSep Finset.univ fun k : TK => (dutyTok ER (cell c (tokK k).1) (tokK k).2.1 (tokK k).2.2 : sProp 𝕄))
    = iprop(ownBar c ∗ (ownArr c .sx ∗ ownArr c .rx ∗ ownArr c .sy ∗ ownArr c .ry) ∗ ownLc c) := by
  have h : (Finset.univ : Finset Arr) = {.sx, .rx, .sy, .ry} := rfl
  refine (BI.bigSep_univ_sum _).trans (congrArg₂ _ ?_ ((BI.bigSep_univ_sum _).trans (congrArg₂ _ ?_ rfl)))
  · rw [show (Finset.univ : Finset Bool) = {true, false} from rfl, bigSep_insert (by decide), bigSep_singleton]
    rfl
  · rw [BI.bigSep_univ_prod, h, BI.bigSep_insert (by decide), BI.bigSep_insert (by decide), BI.bigSep_insert (by decide), BI.bigSep_singleton]
    rfl

end

theorem toks_eq : (bigSep toks fun x => (dutyTok ER x.1 x.2.1 x.2.2 : sProp 𝕄))
    = bigSep Finset.univ fun c : Dev nD => iprop(ownBar c ∗ (ownArr c .sx ∗ ownArr c .rx ∗ ownArr c .sy ∗ ownArr c .ry) ∗ ownLc c) := by
  unfold toks
  rw [bigSep_map, BI.bigSep_univ_prod]
  exact bigSep_congr fun c _ => tok_of c

def xpE : Dev nD ≃ Dev nD := ⟨xp, xp, xp_xp, xp_xp⟩
def ypE : Dev nD ≃ Dev nD := ⟨yp, yp, yp_yp, yp_yp⟩

theorem dev_join (A B : Dev nD → sProp 𝕄) :
    iprop(bigSep Finset.univ A ∗ bigSep Finset.univ B) ⊢ bigSep Finset.univ fun c => iprop(A c ∗ B c) := Entails.of_eq (bigSep_sep' _ A B).symm
theorem dev_part (A B : Dev nD → sProp 𝕄) :
    (bigSep Finset.univ fun c => iprop(A c ∗ B c)) ⊢ iprop(bigSep Finset.univ A ∗ bigSep Finset.univ B) := Entails.of_eq (bigSep_sep' _ A B)

/-- The tokens handed to the devices that pay the duties. -/
theorem toks_around :
    (bigSep Finset.univ fun c : Dev nD => iprop(ownBar c ∗ (ownArr c .sx ∗ ownArr c .rx ∗ ownArr c .sy ∗ ownArr c .ry) ∗ ownLc c))
      ⊢ (bigSep Finset.univ fun c : Dev nD => iprop(TokBar c ∗ Toks c) : sProp 𝕄) := by
  have hx : ∀ Φ : Dev nD → sProp 𝕄, bigSep Finset.univ Φ ⊢ bigSep Finset.univ fun c => Φ (xp c) := fun Φ => Entails.of_eq (bigSep_univ_equiv xpE Φ)
  have hy : ∀ Φ : Dev nD → sProp 𝕄, bigSep Finset.univ Φ ⊢ bigSep Finset.univ fun c => Φ (yp c) := fun Φ => Entails.of_eq (bigSep_univ_equiv ypE Φ)
  iintro H
  ihave H := (dev_part _ _) $$ H
  icases H with ⟨HB, H⟩
  ihave H := (dev_part _ _) $$ H
  icases H with ⟨HA, HL⟩
  ihave HA := (dev_part _ _) $$ HA
  icases HA with ⟨H1, HA⟩
  ihave HA := (dev_part _ _) $$ HA
  icases HA with ⟨H2, HA⟩
  ihave HA := (dev_part _ _) $$ HA
  icases HA with ⟨H3, H4⟩
  unfold ownBar
  ihave HB := (dev_part _ _) $$ HB
  icases HB with ⟨HB1, HB2⟩
  ihave HB1 := (hx _) $$ HB1
  ihave HB2 := (hy _) $$ HB2
  ihave H2 := (hx _) $$ H2
  ihave H4 := (hy _) $$ H4
  iapply (dev_join _ _)
  unfold TokBar Toks
  isplitl [HB1 HB2]
  · iapply (dev_join _ _)
    isplitl [HB1]; · iexact HB1
    iexact HB2
  iapply (dev_join _ _)
  isplitl [H1]; · iexact H1
  iapply (dev_join _ _)
  isplitl [H2]; · iexact H2
  iapply (dev_join _ _)
  isplitl [H3]; · iexact H3
  iapply (dev_join _ _)
  isplitl [H4]; · iexact H4
  iexact HL

/-! ## The credit for what is owed -/

/-- What a device owes its first-axis peer's semaphore, and its second-axis peer's. -/
def dueX : CK → ℕ
  | .bar => 1
  | .ar .rx _ => N
  | _ => 0
def dueY : CK → ℕ
  | .bar => 1
  | .ar .ry _ => N
  | _ => 0

theorem tally_cell (d c : Dev nD) (k l : CK) (n : ℕ) :
    (tallyAt (cell d k) () n : CellTallies nD τ sig Unit) (cell c l) () = if d = c ∧ k = l then n else 0 := by
  rw [tallyAt_apply]
  by_cases h : d = c ∧ k = l
  · rw [if_pos h, if_pos ⟨by rw [h.1, h.2], rfl⟩]
  · rw [if_neg h, if_neg fun e => h (by have := cell_inj e.1; exact ⟨this.1.symm, this.2.symm⟩)]

theorem sum_arr (d c : Dev nD) (a : Arr) (k : CK) :
    (∑ j : Fin 64, (tallyAt (cell d (.ar a j)) () N : CellTallies nD τ sig Unit)) (cell c k) ()
      = if d = c then (match k with | .ar b _ => if a = b then N else 0 | _ => 0) else 0 := by
  rw [Finset.sum_apply, Finsupp.finset_sum_apply, Finset.sum_congr rfl fun j _ => tally_cell d c (.ar a j) k N]
  by_cases h : d = c
  · rw [if_pos h]
    cases k with
    | bar => exact Finset.sum_eq_zero fun j _ => if_neg fun e => by cases e.2
    | lc s => exact Finset.sum_eq_zero fun j _ => if_neg fun e => by cases e.2
    | ar b i =>
      dsimp only
      by_cases hb : a = b
      · subst hb
        rw [if_pos rfl, Finset.sum_eq_single i (fun j _ hj => if_neg fun e => hj (by cases e.2; rfl)) (fun hi => absurd (Finset.mem_univ _) hi),
          if_pos ⟨h, rfl⟩]
      · rw [if_neg hb]
        exact Finset.sum_eq_zero fun j _ => if_neg fun e => hb (by cases e.2; rfl)
  · rw [if_neg h]
    exact Finset.sum_eq_zero fun j _ => if_neg fun e => h e.1

/-- What device `d` owes at the start to a cell of device `c`. -/
theorem owes0_cell (d c : Dev nD) (k : CK) :
    owes0 d (cell c k) () = (if d = yp c then dueY k else 0) + (if d = xp c then dueX k else 0) := by
  have hx : xp d = c ↔ d = xp c := ⟨fun h => by rw [← h, xp_xp], fun h => by rw [h, xp_xp]⟩
  have hy : yp d = c ↔ d = yp c := ⟨fun h => by rw [← h, yp_yp], fun h => by rw [h, yp_yp]⟩
  have h : owes0 d (cell c k) () = ((owesY d 0 (cell c k) () + owesX d 0 (cell c k) ())
      + (tallyAt (cell (yp d) .bar) () 1 : CellTallies nD τ sig Unit) (cell c k) ()) + (tallyAt (cell (xp d) .bar) () 1 : CellTallies nD τ sig Unit) (cell c k) () := rfl
  rw [h, tally_cell, tally_cell]
  unfold owesX owesY
  rw [filter_all, sum_arr, sum_arr]
  simp only [hx, hy]
  cases k with
  | bar => simp only [dueX, dueY, and_true, ite_self, Nat.zero_add]
  | lc s => simp [dueX, dueY]
  | ar a j => cases a <;> simp [dueX, dueY]

/-- The launch's credit at a cell. -/
theorem launch_cell (c : Dev nD) (k : CK) :
    tallyOn (cell c k) (launchCredit (Pipeline.owing owes0) 0 (cell c k)) = (tallyAt (cell c k) () (dueY k + dueX k) : CellTallies nD τ sig Unit) := by
  unfold tallyAt
  refine congrArg _ (Finsupp.ext fun u => ?_)
  cases u
  rw [Pipeline.launchCredit_owing, Finsupp.single_eq_same, Finset.sum_congr rfl fun d _ => owes0_cell d c k, Finset.sum_add_distrib,
    Finset.sum_ite_eq' Finset.univ (yp c) fun _ => dueY k, Finset.sum_ite_eq' Finset.univ (xp c) fun _ => dueX k,
    if_pos (Finset.mem_univ _), if_pos (Finset.mem_univ _)]

def crK : Fin 64 ⊕ Fin 64 → CK
  | .inl j => .ar .rx j
  | .inr j => .ar .ry j
def crEmb : Fin 64 ⊕ Fin 64 ↪ SemLoc sig :=
  ⟨fun x => semK (crK x), fun x y h => by
    have h := semK_inj h
    rcases x with j | j <;> rcases y with i | i <;> simp_all [crK]⟩

/-- A device's credit: two units at its barrier, and its peers' arrivals. -/
theorem creds (c : Dev nD) :
    (Pipeline.launchCred owes0 c : sProp 𝕄) ⊢ iprop(cred (tallyAt (cell c .bar) () 2) ∗ Creds c) := by
  have hb : tallyOn (cell c .bar) (launchCredit (Pipeline.owing owes0) 0 (cell c .bar)) = (tallyAt (cell c .bar) () 2 : CellTallies nD τ sig Unit) :=
    launch_cell c .bar
  have hrx : ∀ j, tallyOn (cell c (.ar .rx j)) (launchCredit (Pipeline.owing owes0) 0 (cell c (.ar .rx j))) = (tallyAt (cell c (.ar .rx j)) () N : CellTallies nD τ sig Unit) :=
    fun j => (launch_cell c (.ar .rx j)).trans (congrArg _ (Nat.zero_add _))
  have hry : ∀ j, tallyOn (cell c (.ar .ry j)) (launchCredit (Pipeline.owing owes0) 0 (cell c (.ar .ry j))) = (tallyAt (cell c (.ar .ry j)) () N : CellTallies nD τ sig Unit) :=
    fun j => (launch_cell c (.ar .ry j)).trans (congrArg _ (Nat.add_zero _))
  have hs : (Finset.univ.map crEmb) ⊆ (Finset.univ : Finset (SemLoc sig)).erase (semK .bar) := fun sm h => by
    obtain ⟨x, -, rfl⟩ := Finset.mem_map.mp h
    refine Finset.mem_erase.mpr ⟨fun e => ?_, Finset.mem_univ _⟩
    have e := semK_inj e
    rcases x with j | j <;> cases e
  have h2 : (bigSep (Finset.univ.map crEmb) fun sm => (cred (tallyOn (c.tc, sm) (launchCredit (Pipeline.owing owes0) 0 (c.tc, sm))) : sProp 𝕄)) = Creds c := by
    rw [bigSep_map]
    exact (BI.bigSep_univ_sum _).trans (congrArg₂ _ (bigSep_congr fun j _ => congrArg _ (hrx j)) (bigSep_congr fun j _ => congrArg _ (hry j)))
  have h3 : (bigSep (Finset.univ.erase (semK .bar)) fun sm => (cred (tallyOn (c.tc, sm) (launchCredit (Pipeline.owing owes0) 0 (c.tc, sm))) : sProp 𝕄))
      ⊢ bigSep (Finset.univ.map crEmb) fun sm => (cred (tallyOn (c.tc, sm) (launchCredit (Pipeline.owing owes0) 0 (c.tc, sm))) : sProp 𝕄) := BI.bigSep_subset hs
  unfold Pipeline.launchCred
  rw [bigSep_univ_at _ (semK .bar)]
  iintro ⟨H1, H2⟩
  isplitl [H1]
  · iapply (Entails.of_eq (congrArg cred hb))
    iexact H1
  ihave H2 := h3 $$ H2
  iapply (Entails.of_eq h2)
  iexact H2

end Cert.KernelIdeal.Hand
end
-- ==== Proof.Main.lean ====
/- The run of the whole program: the launch's holdings dealt to the devices, the host stretch, the region, and what memory holds at the end. -/
module

public import proofs.«01_k».proof.Proof.Deal

@[expose] public section

noncomputable section

namespace Cert.KernelIdeal.Hand

open Idealize.ShloMosaic Idealize.ShloMosaic.TcCoe Cert.KernelIdeal.Gen Idealize.ShloMosaic.ValueIdx
open Idealize.SL Idealize.SL.RA Idealize.SL.BI
open scoped Idealize.SL.BI
open Idealize.SL.BI.BIBase Idealize.SL.BI.Laws Idealize.SL.ProofMode
open Idealize.SL.Sem
open Idealize.ShloMosaic.Rounds
open Idealize.ShloMosaic.Pipeline (Dat pinD)

variable {F : FTy → Type} [FloatOps F]

local notation "𝕄" => MT nD τ sig Unit (Elt F) ℕ UU ℕ

variable (m : (ℓ : Loc nD τ sig) → Buf (Elt F) ℓ)

/-! ## The launch -/

/-- The staging cells of the one region are told apart. -/
theorem stag_inj : Function.Injective (Pipeline.PerCore.cellOf (nD := nD) (τ := τ) (pinD (pcfgs (F := F)) adm)) :=
  Pipeline.PerCore.cellOf_injective (pinD (pcfgs (F := F)) adm)
    (fun c p => by fin_cases p; exact (by decide : Pipeline.SpecSemsDistinct spec0))
    (fun c p p' h => absurd (Subsingleton.elim p p') h)

theorem disjoint_cells : Disjoint (barCells : Finset (GSem nD τ sig)) dmaCells := by
  rw [Finset.disjoint_left]
  rintro g h₁ h₂
  obtain ⟨c, -, rfl⟩ := Finset.mem_map.mp h₁
  obtain ⟨⟨d, k⟩, -, h⟩ := Finset.mem_map.mp h₂
  have e := (cell_inj h).2
  rcases k with ⟨a, j⟩ | s <;> cases e

/-- The launch element: the pipeline's at the staging cells, the protocol's at the cells of the exchange. -/
def u₀ : UU :=
  (initOf (Pipeline.PerCore.cells (pinD (pcfgs (F := F)) adm) stag_inj) (Pipeline.PerCore.launchToks (pinD (pcfgs (F := F)) adm) stag_inj),
    launchOf barCells dmaCells toks)

/-- A resource parked on one device. -/
def onDev (d : Dev nD) (X : sProp 𝕄) (c : Dev nD) : sProp 𝕄 := if c = d then X else iprop(emp)
theorem bigSep_onDev (d : Dev nD) (X : sProp 𝕄) : bigSep Finset.univ (onDev d X) = X := by
  rw [bigSep_univ_at _ d, bigSep_congr (s := Finset.univ.erase d) (Ψ := fun _ => (BI.emp : sProp 𝕄))
      fun c hc => by unfold onDev; rw [if_neg (Finset.ne_of_mem_erase hc)]; rfl, BI.bigSep_emp_const]
  unfold onDev
  rw [if_pos rfl]
  exact BI.equiv_iff.mp BI.sep_emp

def G : Dev nD → sProp 𝕄 := onDev 0 (BI.own (ER (launchOf barCells dmaCells toks)))

/-- What every device may consult: the invariants, and round 0 of every barrier reached. -/
def records (κ : GSem nD τ sig → ℕ) : sProp 𝕄 := iprop(invs m κ ∗ bigSep barCells fun g => reached ER g 0)

instance records_persistent (κ : GSem nD τ sig → ℕ) : BI.Persistent (records m κ) := by unfold records; infer_instance

theorem reached_at (c : Dev nD) : (bigSep barCells fun g => (reached ER g 0 : sProp 𝕄)) ⊢ reached ER (cell c .bar) 0 :=
  bigSep_elim (Finset.mem_map_of_mem barEmb (Finset.mem_univ c))

section
variable (c : Dev nD)

/-- What is one device's of the exchange's ghost state. -/
def linear : sProp 𝕄 := iprop(atPos ER (cell c .bar) 0 ∅ 0 ∗ Opens c ∗ (TokBar c ∗ Toks c))
/-- What is one device's of the rest. -/
def bundle : sProp 𝕄 :=
  iprop(StableHlo.held (c : Thread nD τ) (Pipeline.ucRefs τ sig) (V0 m c) ∗ (cred (tallyAt (cell c .bar) () 2) ∗ Creds c) ∗ owes (c : Thread nD τ) (owes0 c) ∅)
/-- What a device holds beside its buffers until the region. -/
def Rest : Fin 2 → Dev nD → sProp 𝕄 := fun _ c => iprop(Dealt m c ∗ owe c (owes0 c))
def T₀ : sProp 𝕄 := iprop(StableHlo.held (c : Thread nD τ) (Pipeline.ucRefs τ sig) (V0 m c) ∗ Rest m 0 c)

theorem T₀_intro (κ : GSem nD τ sig → ℕ) : iprop(records m κ ∗ (linear c ∗ bundle m c)) ⊢ T₀ m c := by
  unfold records linear bundle T₀ Rest Dealt BarRes TokBar owe
  iintro ⟨⟨#HI, #HR⟩, ⟨Hat, Ho, ⟨HtX, HtY⟩, HT⟩, Hh, ⟨H2, HC⟩, HO⟩
  isplitl [Hh]; · iexact Hh
  isplitr [HO]
  · isplitr; · iexists κ; iexact HI
    isplitl [Hat H2 HtX HtY]
    · isplitl [Hat]; · iexact Hat
      isplitl [H2]; · iexact H2
      isplitl [HtX]
      · isplitl [HtX]; · iexact HtX
        iapply (reached_at (F := F) (xp c)); iexact HR
      isplitl [HtY]; · iexact HtY
      iapply (reached_at (F := F) (yp c)); iexact HR
    isplitl [HT]; · iexact HT
    isplitl [HC]; · iexact HC
    iexact Ho
  · iexists ∅; iexact HO

theorem unscopedSems0_eq : (unscopedSems0 c : sProp 𝕄) = semVal (cell c .bar) 0 := by
  unfold unscopedSems0
  rw [show (Finset.univ.filter fun sm : SemLoc sig => ¬ sm.isScoped .tc) = {SemLoc.reg barS} from by decide, BI.bigSep_singleton]
  rfl

end

theorem unscoped_eq : ∀ sm : SemLoc sig, sm.isScoped .tc = false → sm = .reg barS := by decide

theorem init (ρ : Dev nD → PrngReg) :
    iprop((bigSep Finset.univ fun c : Dev nD => iprop(unscopedBufs c (fun b => m ((c : Thread nD τ).loc b)) ∗ unscopedSems0 c
          ∗ owes (c : Thread nD τ) (owes0 c) ∅ ∗ Pipeline.launchCred owes0 c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owes0 c) ∅ ∗ Pipeline.launchCred owes0 c ∗ prngReg c (ρ c) ∗ G c)
      ⊢ (iprop(bundle m c ∗ (semVal (cell c .bar) 0 ∗ G c)) : sProp 𝕄) := by
    rw [show unscopedBufs c (fun b => m ((c : Thread nD τ).loc b)) = StableHlo.held (c : Thread nD τ) (Pipeline.ucRefs τ sig) (V0 m c) from
      Pipeline.unscopedBufs_held c (V0 m c), unscopedSems0_eq]
    unfold bundle
    iintro ⟨Hh, Hus, HO, Hcr, -, HG⟩
    ihave Hc := (creds (F := F) c) $$ Hcr
    isplitr [Hus HG]
    · isplitl [Hh]; · iexact Hh
      isplitl [Hc]; · iexact Hc
      iexact HO
    isplitl [Hus] <;> iassumption
  have hv : bigSep Finset.univ (fun c : Dev nD => (semVal (cell c .bar) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c .bar) 0 ∅ 0 : sProp 𝕄)) :=
    Entails.of_eq (bigSep_map (s := Finset.univ) barEmb (Φ := fun g : GSem nD τ sig => (atPos ER g 0 ∅ 0 : sProp 𝕄)))
  have hopen : bigSep dmaCells (fun g => (openTok ER g : sProp 𝕄)) ⊢ bigSep Finset.univ (fun c : Dev nD => (Opens c : sProp 𝕄)) :=
    Entails.of_eq (by
      unfold dmaCells
      rw [bigSep_map, BI.bigSep_univ_prod]
      rfl)
  iintro ⟨H, -⟩
  ihave H' := (show (bigSep Finset.univ fun c : Dev nD => iprop(unscopedBufs c (fun b => m ((c : Thread nD τ).loc b)) ∗ unscopedSems0 c
          ∗ owes (c : Thread nD τ) (owes0 c) ∅ ∗ Pipeline.launchCred owes0 c ∗ prngReg c (ρ c) ∗ G c))
      ⊢ (bigSep Finset.univ fun c : Dev nD => iprop(bundle m c ∗ (semVal (cell c .bar) 0 ∗ G c)) : sProp 𝕄) from bigSep_mono fun c _ => hcore c) $$ H
  ihave H2 := (dev_part _ _) $$ H'
  icases H2 with ⟨HB, H3⟩
  ihave H4 := (dev_part _ _) $$ H3
  icases H4 with ⟨Hv, HG⟩
  ihave Hu := (show bigSep Finset.univ (G (F := F)) ⊢ BI.own (ER (launchOf barCells dmaCells toks)) from
    Entails.of_eq (bigSep_onDev (F := F) 0 (BI.own (ER (launchOf barCells dmaCells toks))))) $$ HG
  imod (Rounds.fund_launch ER (Rd m) disjoint_cells (fun g _ h => h) toks) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(linear c ∗ bundle m c)) fun c _ => T₀_intro m c κ)
  isplitr
  · unfold records invs
    isplitr; · iexact Hinv
    iexact Hr
  iapply (dev_join _ _)
  isplitr [HB]
  · unfold linear
    iapply (dev_join _ _)
    isplitl [Hat]; · iapply hat $$ Hat
    iapply (dev_join _ _)
    isplitl [Hopen]; · iapply hopen $$ Hopen
    iapply (toks_around (F := F))
    iapply (Entails.of_eq (toks_eq (F := F))) $$ Htok
  · iexact HB

/-! ## The run -/

/-- One device's program: the host stretch, then the region. -/
def segs (c : Dev nD) : List (Pipeline.PerCore.Seg (pcfgs (F := F)) adm (pdats m) () defs₀ 𝒱₀ L lv) :=
  [.host (seg0 m 𝒱₀ L lv (Rest m) c), .region (reg m)]

set_option backward.isDefEq.respectTransparency.types false in
/-- From any memory with zero counters every fair execution on the four devices ends; every device's arguments are unchanged, its result holds
    the value the exchange computes, and every counter is zero. -/
theorem run_main (g : Dev nD → PrngReg) :
    θ_run defs (onTc (τ := τ) (main (F := F))) ⟨m, fun _ => 0, g⟩ (fun r => (∀ c : Dev nD,
        (r.2.mem ((c : Thread nD τ).loc main_arg0) = m ((c : Thread nD τ).loc main_arg0) ∧ r.2.mem ((c : Thread nD τ).loc main_arg1) = m ((c : Thread nD τ).loc main_arg1)
          ∧ r.2.mem ((c : Thread nD τ).loc main_arg2) = m ((c : Thread nD τ).loc main_arg2))
        ∧ r.2.mem ((c : Thread nD τ).loc main_v7) = resV m c) ∧ r.2.sem = fun _ => 0) :=
  Pipeline.PerCore.θ_run_regions_kit_sems (pcfgs (F := F)) adm (pdats m) () stag_inj EP defs₀ 𝒱₀ L lv m g main (segs m)
    (fun c Q => by
      rewrite [main_chain c, Pipeline.PerCore.Seg.run_eq_chain, show (segs m c).map Pipeline.PerCore.Seg.prog = [
          StableHlo.seq (hostOps0 c),
          Prog.lift (.customCall (Pipeline.entry 0) ()) ] from rfl]
      dsimp (config := { failIfUnchanged := false }) only
      exact .rfl)
    (fun c => by simp only [segs, Pipeline.PerCore.Seg.pipes_host, Pipeline.PerCore.Seg.pipes_region, Pipeline.PerCore.Seg.pipes_nil]; decide)
    (O₀ := owes0) (hL := L_of_ne) (G := G) (u₀ := u₀ (F := F))
    (hu₀ := by
      unfold u₀ G
      iintro Hu
      ihave H := (ownU_pair _ _) $$ Hu
      icases H with ⟨HP, HX⟩
      imodintro
      isplitl [HP]; · iexact HP
      rw [bigSep_onDev]; iexact HX)
    (T₀ := T₀ m) (Tₙ := Fin' m)
    (hch := fun c => ⟨.rfl, .rfl, .rfl⟩)
    (hinit := init m g)
    (QY := fun c s => ((s.mem ((c : Thread nD τ).loc main_arg0) = m ((c : Thread nD τ).loc main_arg0) ∧ s.mem ((c : Thread nD τ).loc main_arg1) = m ((c : Thread nD τ).loc main_arg1)
          ∧ s.mem ((c : Thread nD τ).loc main_arg2) = m ((c : Thread nD τ).loc main_arg2)) ∧ s.mem ((c : Thread nD τ).loc main_v7) = resV m c) ∧ s.sem (cell c .bar) = 0)
    (hfin := fun c s' => by
      unfold Fin'
      iintro ⟨⟨H0, H1, H2, H7, Hb⟩, HSI⟩
      icombine HSI H0 gives %h0
      icombine HSI H1 gives %h1
      icombine HSI H2 gives %h2
      icombine HSI H7 gives %h7
      icombine HSI Hb gives %hb
      imodintro
      isplitr
      · ipureintro
        exact ⟨⟨⟨Buf.eq_of_forall_mem_univ h0, Buf.eq_of_forall_mem_univ h1, Buf.eq_of_forall_mem_univ h2⟩, Buf.eq_of_forall_mem_univ h7⟩, by simpa using hb⟩
      iexact HSI)
    (hQ := fun s h hs => ⟨fun c => (h c).1,
      sem_eq_zero hs fun c sm hsm => by
        obtain rfl := unscoped_eq sm hsm
        exact (h c).2⟩)

end Cert.KernelIdeal.Hand
end
-- ==== Proof.Value.lean ====
/- The result on every device is the reference's: both are read at an index, over the extended reals. -/
module

public import proofs.«01_k».proof.Proof.Main
public import proofs.«01_k».proof.Defs
public import proofs.«01_k».proof.Proof.Gen.ReferenceIdeal.Run
public import Idealize.ShloMosaic.Lib.Pointwise

@[expose] public section

noncomputable section

namespace Cert.KernelIdeal.Hand

open Idealize.ShloMosaic Idealize.ShloMosaic.TcCoe Cert.KernelIdeal.Gen

/-! ## The constants -/

theorem ofBits_2048 : Ideal.ofBits .f32 0x45000000#32 = ((2048 : ℝ) : EReal) := by
  simp [Ideal.ofBits, Ideal.ieee, -EReal.coe_mul]
  norm_num

/-- What is added under the root is positive. -/
theorem ofBits_eps_pos : 0 < Ideal.ofBits .f32 0x358637BD#32 := by
  simp [Ideal.ofBits, Ideal.ieee, -EReal.coe_mul]

/-! ## Arithmetic over the extended reals -/

/-- Multiplying by the reciprocal of a root is dividing by the root, of anything positive. -/
theorem mul_rsqrt (y t : EReal) (h : 0 < t) : y * Ideal.rsqrt t = Ideal.div y (Ideal.sqrt t) := by
  induction t using EReal.rec with
  | bot => exact absurd h (by simp)
  | top => simp [Ideal.div]
  | coe r =>
    have hr : (0 : ℝ) < r := by exact_mod_cast h
    have hs : Real.sqrt r ≠ 0 := (Real.sqrt_pos.mpr hr).ne'
    rw [Ideal.rsqrt_coe, Ideal.sqrt_coe, if_neg hr.le.not_gt, if_neg hr.ne', if_neg hr.le.not_gt, Ideal.div_coe hs, one_div]

theorem sq_nonneg' (x : EReal) : 0 ≤ x * x := by
  induction x using EReal.rec with
  | bot => simp
  | top => simp
  | coe r => exact_mod_cast mul_self_nonneg r

/-- A mean of squares with the constant added is positive. -/
theorem mean_pos {n : ℕ} (f : Fin n → EReal) :
    0 < Ideal.div (∑ k, f k * f k) (Ideal.ofBits .f32 0x45000000#32) + Ideal.ofBits .f32 0x358637BD#32 := by
  have h : 0 ≤ Ideal.div (∑ k, f k * f k) (Ideal.ofBits .f32 0x45000000#32) := by
    rw [ofBits_2048, Ideal.div_coe (by norm_num)]
    exact mul_nonneg (Finset.sum_nonneg fun k _ => sq_nonneg' (f k)) (by exact_mod_cast (by norm_num : (0 : ℝ) ≤ 1 / 2048))
  exact lt_of_lt_of_le ofBits_eps_pos (le_add_of_nonneg_left h)

/-! ## The kernel's result at an index -/

/-- One element of a normalized row: the row `f`, its element `l`, the scale there. -/
def norm (f : Fin 2048 → EReal) (l : Fin 2048) (g : EReal) : EReal :=
  Ideal.div (f l) (Ideal.sqrt (Ideal.div (∑ k, f k * f k) (Ideal.ofBits .f32 0x45000000#32) + Ideal.ofBits .f32 0x358637BD#32)) * g

/-- What a device computes from blocks `p`, `q` of the two partial sums, a block of the residual and the scale. -/
theorem pay_apply (p q : Vec Ideal S1x64x2048 .f32) (r : Vec Ideal S64x2048 .f32) (g : Vec Ideal S1x2048 .f32) (x : Fin 64) (l : Fin 2048) :
    k0_pay2 (k0_pay1 p) q r g (ix3 (0 : Fin 1) x l)
      = norm (fun k => p (ix3 (0 : Fin 1) x k) + q (ix3 (0 : Fin 1) x k) + r (ix2 x k)) l (g (ix2 (0 : Fin 1) l)) := by
  unfold norm
  rw [← mul_rsqrt _ _ (mean_pos _)]
  unfold k0_pay2 k0_pay1
  pointwise

/-- A partial sum's element: what is laid out along the first axis of the mesh is the reference's half named by the device's first coordinate. -/
theorem part_of (A : FVec Ideal Cert.ReferenceIdeal.S2x8192x2048 .f32) (c : Dev nD) (z : Fin 1) (r : Fin 8192) (k : Fin 2048) :
    (Layout.blockN ⟨3, ![1, 8192, 2048]⟩ ⟨3, ![2, 8192, 2048]⟩ (Layout.meshBlock [2, 2] ![[0], [], []] c) A : FVec Ideal S1x8192x2048 .f32) (ix3 z r k)
      = A (ix3 (⟨c.val / 2, by have := c.isLt; simp only [nD] at this; omega⟩ : Fin 2) r k) := by
  have h0 : ∀ c : Dev nD, ((Layout.meshBlock [2, 2] ![[0], [], []] c) 0).val = c.val / 2 := by decide
  have h1 : ∀ c : Dev nD, ((Layout.meshBlock [2, 2] ![[0], [], []] c) 1).val = 0 := by decide
  have h2 : ∀ c : Dev nD, ((Layout.meshBlock [2, 2] ![[0], [], []] c) 2).val = 0 := by decide
  refine (Layout.blockN_apply _ _ _ _).trans (congrArg A ?_)
  funext a
  apply Fin.ext
  refine (Layout.TilesN.idx_val _ _ _ _).trans ?_
  fin_cases a
  · show ((Layout.meshBlock [2, 2] ![[0], [], []] c) 0).val * 1 + z.val = c.val / 2
    rw [h0]; omega
  · show ((Layout.meshBlock [2, 2] ![[0], [], []] c) 1).val * 8192 + r.val = r.val
    rw [h1]; omega
  · show ((Layout.meshBlock [2, 2] ![[0], [], []] c) 2).val * 2048 + k.val = k.val
    rw [h2]; omega

end Cert.KernelIdeal.Hand

namespace Cert.ReferenceIdeal.Value

open Idealize.ShloMosaic Idealize.ShloMosaic.TcCoe Cert.ReferenceIdeal Cert.ReferenceIdeal.Gen

/-- The reference's result, of its three arguments. -/
def refV (A : FVec Ideal S2x8192x2048 .f32) (R : FVec Ideal S8192x2048 .f32) (G : FVec Ideal S2048 .f32) : FVec Ideal S8192x2048 .f32 :=
  mulf (Host.divf (addf (Host.reduceAdd A (constant S_ .f32 0x00000000#32) reducesTo_S2x8192x2048_S8192x2048_d0 h_S_) R) (broadcastInDim S8192x2048 ![0, 1] bcast_S8192x1_S8192x2048_0_1 (Host.sqrt (addf (Host.divf (broadcastInDim S8192x1 ![0] bcast_S8192_S8192x1_0 (Host.reduceAdd (mulf (addf (Host.reduceAdd A (constant S_ .f32 0x00000000#32) reducesTo_S2x8192x2048_S8192x2048_d0 h_S_) R) (addf (Host.reduceAdd A (constant S_ .f32 0x00000000#32) reducesTo_S2x8192x2048_S8192x2048_d0 h_S_) R)) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 (broadcastInDim S1x2048 ![1] bcast_S2048_S1x2048_1 G))

/-- The reference's result at an index. -/
theorem refV_apply (A : FVec Ideal S2x8192x2048 .f32) (R : FVec Ideal S8192x2048 .f32) (G : FVec Ideal S2048 .f32) (r : Fin 8192) (l : Fin 2048) :
    refV A R G (ix2 r l)
      = Cert.KernelIdeal.Hand.norm (fun k => A (ix3 (0 : Fin 2) r k) + A (ix3 (1 : Fin 2) r k) + R (ix2 r k)) l (G (ix1 l)) := by
  unfold refV Cert.KernelIdeal.Hand.norm
  pointwise
  simp only [Fin.sum_univ_two, zero_add]

end Cert.ReferenceIdeal.Value

namespace Cert.KernelIdeal.Hand

open Idealize.ShloMosaic Idealize.ShloMosaic.TcCoe Cert.KernelIdeal.Gen

variable (m : (ℓ : Loc nD τ sig) → Buf (Elt Ideal) ℓ)

/-- Every device's result is the reference's, whose arguments the devices' arguments are parts of. -/
theorem result_eq (A : FVec Ideal Cert.ReferenceIdeal.S2x8192x2048 .f32) (R : FVec Ideal S8192x2048 .f32) (G : FVec Ideal S2048 .f32)
    (h0 : ∀ d, argP m d = Layout.blockN ⟨3, ![1, 8192, 2048]⟩ ⟨3, ![2, 8192, 2048]⟩ (Layout.meshBlock [2, 2] ![[0], [], []] d) A)
    (h1 : ∀ d, argR m d = R) (h2 : ∀ d : Dev nD, (m ((d : Thread nD τ).loc main_arg2) : FVec Ideal S2048 .f32) = G) (c : Dev nD) :
    resV m c = Cert.ReferenceIdeal.Value.refV A R G := by
  have hx : ∀ d : Dev nD, (d.val / 2 = 0 ∧ (xp d).val / 2 = 1) ∨ (d.val / 2 = 1 ∧ (xp d).val / 2 = 0) := by decide
  funext i
  obtain ⟨r, l, rfl⟩ : ∃ (r : Fin 8192) (l : Fin 2048), i = ix2 r l := ⟨i 0, i 1, by funext a; fin_cases a <;> rfl⟩
  have hr := r.isLt
  have hrow : (⟨(64 * (r.val / 64) + r.val % 64) % 8192, Nat.mod_lt _ (by decide)⟩ : Fin 8192) = r := Fin.ext (by show _ % 8192 = _; omega)
  have hp : ∀ d k, partB m d (r.val / 64) (ix3 (0 : Fin 1) (⟨r.val % 64, Nat.mod_lt _ (by decide)⟩ : Fin 64) k)
      = A (ix3 (⟨d.val / 2, by have := d.isLt; simp only [nD] at this; omega⟩ : Fin 2) r k) := fun d k => by
    show argP m d (ix3 (0 : Fin 1) (⟨(64 * (r.val / 64) + r.val % 64) % 8192, Nat.mod_lt _ (by decide)⟩ : Fin 8192) k) = _
    rw [hrow, h0, part_of]
  have hq : ∀ d k, residB m d (r.val / 64) (ix2 (⟨r.val % 64, Nat.mod_lt _ (by decide)⟩ : Fin 64) k) = R (ix2 r k) := fun d k => by
    show argR m d (ix2 (⟨(64 * (r.val / 64) + r.val % 64) % 8192, Nat.mod_lt _ (by decide)⟩ : Fin 8192) k) = _
    rw [hrow, h1]
  have hg : ∀ d, gam m d (ix2 (0 : Fin 1) l) = G (ix1 l) := fun d => by
    show (m ((d : Thread nD τ).loc main_arg2) : FVec Ideal S2048 .f32) (ix1 l) = _
    rw [h2]
  rw [Cert.ReferenceIdeal.Value.refV_apply]
  generalize hd : owner c (r.val / 4096) = d
  have e : resV m c (ix2 r l) = outRows m d (r.val / 64) (ix3 (0 : Fin 1) (⟨r.val % 64, Nat.mod_lt _ (by decide)⟩ : Fin 64) l) := by
    rw [← hd]; rfl
  rw [e]
  unfold outRows
  rw [pay_apply, hg]
  refine congrArg (fun f => norm f l (G (ix1 l))) (funext fun k => ?_)
  rw [hp, hp, hq]
  refine congrArg (· + _) ?_
  rcases hx d with ⟨ha, hb⟩ | ⟨ha, hb⟩
  · simp only [ha, hb]; rfl
  · simp only [ha, hb]; exact add_comm _ _

end Cert.KernelIdeal.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Flash
public import proofs.«01_k».proof.Proof.Gen.ReferenceIdeal
public import proofs.«01_k».proof.Proof.Gen.ReferenceIdeal.Run
public import proofs.«01_k».proof.Proof.KMain
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel runs on the four devices, its arguments end unchanged, every counter ends at zero. -/
theorem frame_p : Cert.quiescent_Kernel := fun m g _ =>
  (θ_run Cert.Kernel.defs _ _).mono (fun _ h => ⟨fun c => (h.1 c).1, h.2⟩) (Cert.Kernel.Hand.run_main (F := Bits) m g)

/-- The same of the kernel read over the extended reals. -/
theorem frame_pi : Cert.quiescent_KernelIdeal := fun m g _ =>
  (θ_run Cert.KernelIdeal.defs _ _).mono (fun _ h => ⟨fun c => (h.1 c).1, h.2⟩) (Cert.KernelIdeal.Hand.run_main (F := Ideal) m g)

/-- The reference runs, its arguments end unchanged, every counter ends at zero. -/
theorem frame_ri : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

/-- Every device's result is the reference's. -/
theorem algebraic : Cert.algebraic_KernelIdeal_ReferenceIdeal := fun m g m' g' _ h =>
  ⟨_, (θ_run Cert.KernelIdeal.defs _ _).mono
      (fun _ hr c => ⟨(hr.1 c).2.trans (Cert.KernelIdeal.Hand.result_eq m _ _ _ (fun d => (h d).1) (fun d => (h d).2.1) (fun d => (h d).2.2) c), (hr.1 c).1⟩)
      (Cert.KernelIdeal.Hand.run_main (F := Ideal) m g),
    (θ_run Cert.ReferenceIdeal.defs _ _).mono (fun _ hr => hr 0) (Cert.ReferenceIdeal.Value.run (F := Ideal) m' g')⟩

theorem claim : Cert.Claim := ⟨Cert.Kernel.Gen.facts, Cert.KernelIdeal.Gen.facts, Cert.ReferenceIdeal.Gen.facts,
  frame_p, frame_pi, frame_ri, trivial, algebraic⟩

end Cert.Proof

end
